-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S3x512x4096 : Shape := ⟨3, ![3, 512, 4096]⟩
abbrev S4096x3584 : Shape := ⟨2, ![4096, 3584]⟩
abbrev S3584 : Shape := ⟨1, ![3584]⟩
abbrev S3x512x3584 : Shape := ⟨3, ![3, 512, 3584]⟩
abbrev S1 : Shape := ⟨1, ![1]⟩
abbrev S_ : Shape := ⟨0, ![]⟩

class Facts : Prop where
  bcast_S_S3x512x4096 : S_.BroadcastsInDim S3x512x4096 (![] : Fin 0 → Fin S3x512x4096.rank)

variable [Facts]

def fn {F : FTy → Type} [FloatOps F] (main_arg0 : FVec F S3x512x4096 .bf16) (main_arg1 : FVec F S4096x3584 .fp8e4m3) (main_arg2 : FVec F S3584 .f32) (main_arg3 : FVec F S3x512x3584 .bf16) (main_arg4 : FVec F S3584 .bf16) (main_arg5 : FVec F S1 .f32) : IVec S3x512x4096 1 :=
  let main_v0 : FVec F S3x512x4096 .bf16 := Host.absf main_arg0
  let main_cst : FVec F S_ .bf16 := constant S_ .bf16 0x7F7F#16
  let main_v1 : FVec F S3x512x4096 .bf16 := broadcastInDim S3x512x4096 ![] bcast_S_S3x512x4096 main_cst
  let main_v2 : IVec S3x512x4096 1 := cmpf .ole main_v0 main_v1
  main_v2
-- ==== Kernel.lean ====
abbrev S3x512x4096 : Shape := ⟨3, ![3, 512, 4096]⟩
abbrev S4096x3584 : Shape := ⟨2, ![4096, 3584]⟩
abbrev S3584 : Shape := ⟨1, ![3584]⟩
abbrev S3x512x3584 : Shape := ⟨3, ![3, 512, 3584]⟩
abbrev S1 : Shape := ⟨1, ![1]⟩
abbrev S1536x4096 : Shape := ⟨2, ![1536, 4096]⟩
abbrev S28x128 : Shape := ⟨2, ![28, 128]⟩
abbrev S1536x3584 : Shape := ⟨2, ![1536, 3584]⟩
abbrev S6x1x256 : Shape := ⟨3, ![6, 1, 256]⟩
abbrev S1536x1792 : Shape := ⟨2, ![1536, 1792]⟩
abbrev S3x224x512 : Shape := ⟨3, ![3, 224, 512]⟩
abbrev S256x4096 : Shape := ⟨2, ![256, 4096]⟩
abbrev S256x3584 : Shape := ⟨2, ![256, 3584]⟩
abbrev S1x1x256 : Shape := ⟨3, ![1, 1, 256]⟩
abbrev S256x1792 : Shape := ⟨2, ![256, 1792]⟩
abbrev S1x224x256 : Shape := ⟨3, ![1, 224, 256]⟩
abbrev S256x128 : Shape := ⟨2, ![256, 128]⟩
abbrev S3584x128 : Shape := ⟨2, ![3584, 128]⟩
abbrev S2x3584x128 : Shape := ⟨3, ![2, 3584, 128]⟩
abbrev S4x72x128 : Shape := ⟨3, ![4, 72, 128]⟩
abbrev S2x224x128 : Shape := ⟨3, ![2, 224, 128]⟩
abbrev S2x16x128 : Shape := ⟨3, ![2, 16, 128]⟩
abbrev S1x128 : Shape := ⟨2, ![1, 128]⟩
abbrev S128x128 : Shape := ⟨2, ![128, 128]⟩
abbrev S32x128 : Shape := ⟨2, ![32, 128]⟩
abbrev S32 : Shape := ⟨1, ![32]⟩
abbrev S32x1 : Shape := ⟨2, ![32, 1]⟩
abbrev S1x1x128 : Shape := ⟨3, ![1, 1, 128]⟩
abbrev S4096x512 : Shape := ⟨2, ![4096, 512]⟩
abbrev S256x512 : Shape := ⟨2, ![256, 512]⟩
abbrev S16x128 : Shape := ⟨2, ![16, 128]⟩
abbrev S1x16x128 : Shape := ⟨3, ![1, 16, 128]⟩
abbrev S8x128 : Shape := ⟨2, ![8, 128]⟩
abbrev S1x8x128 : Shape := ⟨3, ![1, 8, 128]⟩
abbrev S1x72x128 : Shape := ⟨3, ![1, 72, 128]⟩
abbrev S72x128 : Shape := ⟨2, ![72, 128]⟩
abbrev S128 : Shape := ⟨1, ![128]⟩
abbrev S1x32x128 : Shape := ⟨3, ![1, 32, 128]⟩
abbrev S64x128 : Shape := ⟨2, ![64, 128]⟩
abbrev S8x8x128 : Shape := ⟨3, ![8, 8, 128]⟩

abbrev nBuf : Space → Nat
  | .hbm => 15
  | .vmem => 24
  | .smem => 1
  | _ => 0

abbrev bufTy : (tb : Table) → Fin (tcTables nBuf tb) → BufTy
  | .hbm, ⟨0, _⟩ => ⟨S3x512x4096, .bf16⟩
  | .hbm, ⟨1, _⟩ => ⟨S4096x3584, .fp8e4m3⟩
  | .hbm, ⟨2, _⟩ => ⟨S3584, .f32⟩
  | .hbm, ⟨3, _⟩ => ⟨S3x512x3584, .bf16⟩
  | .hbm, ⟨4, _⟩ => ⟨S3584, .bf16⟩
  | .hbm, ⟨5, _⟩ => ⟨S1, .f32⟩
  | .hbm, ⟨6, _⟩ => ⟨S1536x4096, .bf16⟩
  | .hbm, ⟨7, _⟩ => ⟨S28x128, .f32⟩
  | .hbm, ⟨8, _⟩ => ⟨S1536x3584, .bf16⟩
  | .hbm, ⟨9, _⟩ => ⟨S28x128, .bf16⟩
  | .hbm, ⟨10, _⟩ => ⟨S1536x3584, .bf16⟩
  | .hbm, ⟨11, _⟩ => ⟨S1536x4096, .fp8e4m3⟩
  | .hbm, ⟨12, _⟩ => ⟨S6x1x256, .f32⟩
  | .hbm, ⟨13, _⟩ => ⟨S1536x1792, .i8⟩
  | .hbm, ⟨14, _⟩ => ⟨S3x224x512, .fp8e4m3⟩
  | .local _ .vmem, ⟨0, _⟩ => ⟨S256x4096, .bf16⟩
  | .local _ .vmem, ⟨1, _⟩ => ⟨S256x4096, .bf16⟩
  | .local _ .vmem, ⟨2, _⟩ => ⟨S4096x3584, .fp8e4m3⟩
  | .local _ .vmem, ⟨3, _⟩ => ⟨S28x128, .f32⟩
  | .local _ .vmem, ⟨4, _⟩ => ⟨S256x3584, .bf16⟩
  | .local _ .vmem, ⟨5, _⟩ => ⟨S256x3584, .bf16⟩
  | .local _ .vmem, ⟨6, _⟩ => ⟨S28x128, .bf16⟩
  | .local _ .vmem, ⟨7, _⟩ => ⟨S256x3584, .bf16⟩
  | .local _ .vmem, ⟨8, _⟩ => ⟨S256x3584, .bf16⟩
  | .local _ .vmem, ⟨9, _⟩ => ⟨S256x4096, .fp8e4m3⟩
  | .local _ .vmem, ⟨10, _⟩ => ⟨S256x4096, .fp8e4m3⟩
  | .local _ .vmem, ⟨11, _⟩ => ⟨S1x1x256, .f32⟩
  | .local _ .vmem, ⟨12, _⟩ => ⟨S1x1x256, .f32⟩
  | .local _ .vmem, ⟨13, _⟩ => ⟨S256x1792, .i8⟩
  | .local _ .vmem, ⟨14, _⟩ => ⟨S256x1792, .i8⟩
  | .local _ .vmem, ⟨15, _⟩ => ⟨S1x224x256, .fp8e4m3⟩
  | .local _ .vmem, ⟨16, _⟩ => ⟨S1x224x256, .fp8e4m3⟩
  | .local _ .vmem, ⟨17, _⟩ => ⟨S256x128, .f32⟩
  | .local _ .vmem, ⟨18, _⟩ => ⟨S3584x128, .f32⟩
  | .local _ .vmem, ⟨19, _⟩ => ⟨S2x3584x128, .f32⟩
  | .local _ .vmem, ⟨20, _⟩ => ⟨S4x72x128, .f32⟩
  | .local _ .vmem, ⟨21, _⟩ => ⟨S2x224x128, .f32⟩
  | .local _ .vmem, ⟨22, _⟩ => ⟨S2x224x128, .f32⟩
  | .local _ .vmem, ⟨23, _⟩ => ⟨S2x16x128, .f32⟩
  | .local _ .smem, ⟨0, _⟩ => ⟨S1, .f32⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S28x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S28x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1792 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x224x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S3x512x4096 : Shape := ⟨3, ![3, 512, 4096]⟩
abbrev S4096x3584 : Shape := ⟨2, ![4096, 3584]⟩
abbrev S3584 : Shape := ⟨1, ![3584]⟩
abbrev S3x512x3584 : Shape := ⟨3, ![3, 512, 3584]⟩
abbrev S1 : Shape := ⟨1, ![1]⟩
abbrev S1536x4096 : Shape := ⟨2, ![1536, 4096]⟩
abbrev S1x3584 : Shape := ⟨2, ![1, 3584]⟩
abbrev S1536x3584 : Shape := ⟨2, ![1536, 3584]⟩
abbrev S6x1x256 : Shape := ⟨3, ![6, 1, 256]⟩
abbrev S1536 : Shape := ⟨1, ![1536]⟩
abbrev S1x254 : Shape := ⟨2, ![1, 254]⟩
abbrev S1536x1 : Shape := ⟨2, ![1536, 1]⟩
abbrev S1536x254 : Shape := ⟨2, ![1536, 254]⟩

abbrev nBuf : Space → Nat
  | .hbm => 12
  | .vmem => 7
  | .smem => 0
  | _ => 0

abbrev bufTy : (tb : Table) → Fin (tcTables nBuf tb) → BufTy
  | .hbm, ⟨0, _⟩ => ⟨S3x512x4096, .bf16⟩
  | .hbm, ⟨1, _⟩ => ⟨S4096x3584, .fp8e4m3⟩
  | .hbm, ⟨2, _⟩ => ⟨S3584, .f32⟩
  | .hbm, ⟨3, _⟩ => ⟨S3x512x3584, .bf16⟩
  | .hbm, ⟨4, _⟩ => ⟨S3584, .bf16⟩
  | .hbm, ⟨5, _⟩ => ⟨S1, .f32⟩
  | .hbm, ⟨6, _⟩ => ⟨S1536x4096, .bf16⟩
  | .hbm, ⟨7, _⟩ => ⟨S1x3584, .f32⟩
  | .hbm, ⟨8, _⟩ => ⟨S1536x3584, .bf16⟩
  | .hbm, ⟨9, _⟩ => ⟨S1536x3584, .bf16⟩
  | .hbm, ⟨10, _⟩ => ⟨S1536x4096, .fp8e4m3⟩
  | .hbm, ⟨11, _⟩ => ⟨S6x1x256, .f32⟩
  | .local _ .vmem, ⟨0, _⟩ => ⟨S1536x4096, .bf16⟩
  | .local _ .vmem, ⟨1, _⟩ => ⟨S4096x3584, .fp8e4m3⟩
  | .local _ .vmem, ⟨2, _⟩ => ⟨S1x3584, .f32⟩
  | .local _ .vmem, ⟨3, _⟩ => ⟨S1536x3584, .bf16⟩
  | .local _ .vmem, ⟨4, _⟩ => ⟨S1536x3584, .bf16⟩
  | .local _ .vmem, ⟨5, _⟩ => ⟨S1536x4096, .fp8e4m3⟩
  | .local _ .vmem, ⟨6, _⟩ => ⟨S6x1x256, .f32⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Blocks.lean ====
/- What one step of the kernel computes, block by block, in the kernel's own operations: the scaled row maximum, the
   power of two it is rounded up to, the codes, the matrix product and the residual sum. One definition serves all the
   blocks of a kind; `Pieces.lean` shows that the run's stores are these. -/
module

public import proofs.«01_k».proof.Proof.Gen.KernelIdeal.Frame.Runs

@[expose] public section

noncomputable section

namespace Cert.KernelIdeal.Blocks

open Cert.KernelIdeal Cert.KernelIdeal.Gen Idealize.ShloMosaic Idealize.ShloMosaic.TcCoe Idealize.SL.Sem

variable {F : FTy → Type} [FloatOps F]

/-! ### The quantiser of 32 rows -/

/-- The running maximum of the absolute values over the lane blocks `0 … n` of 32 rows. -/
def maxUpTo (l : ℕ → FVec F S32x128 .bf16) : ℕ → FVec F S32x128 .bf16
  | 0 => absf (shapeCast S32x128 (l 0) shapeCasts_S32x128_S32x128)
  | n + 1 => maximumf (maxUpTo l n) (absf (shapeCast S32x128 (l (n + 1)) shapeCasts_S32x128_S32x128))

/-- The row maximum divided by 448, over all lanes. -/
def scaled (l : ℕ → FVec F S32x128 .bf16) : FVec F S32x128 .f32 :=
  broadcastTo S32x128
    (shapeCast S32x1
      (mulf
        (shapeCast S32x1
          (multiReduction .maximumf [1] S32 (extf .f32 (maxUpTo l 31) bitsLt_bf16_f32) 0xFF800000#32 reduces_S32x128_S32 (.inl rfl) rfl)
          shapeCasts_S32_S32x1)
        (broadcast S32x1 (Scalar.ofBits .f32 0x3B124925#32)))
      shapeCasts_S32x1_S32x1)
    broadcasts_S32x1_S32x128

/-- One binary digit of the exponent field: the digit is kept if the value with it set is not above `s`. -/
def digit (s : FVec F S32x128 .f32) (e : IVec S32x128 32) (b : BitVec 32) : IVec S32x128 32 :=
  select (cmpf .oge s (bitcastToFloat .f32 (addi e (broadcast S32x128 b)))) (addi e (broadcast S32x128 b)) e

/-- The exponent field of `s`, in its place in the word, found digit by digit. -/
def field (s : FVec F S32x128 .f32) : IVec S32x128 32 :=
  digit s (digit s (digit s (digit s (digit s (digit s (digit s (digit s (broadcast S32x128 0#32)
    1073741824#32) 536870912#32) 268435456#32) 134217728#32) 67108864#32) 33554432#32) 16777216#32) 8388608#32

/-- The power of two above `s`, or one where the field is zero. -/
def scaleOf (s : FVec F S32x128 .f32) : FVec F S32x128 .f32 :=
  shapeCast S32x128
    (bitcastToFloat .f32
      (select (cmpi .eq (field s) (broadcast S32x128 0#32)) (broadcast S32x128 1065353216#32) (addi (field s) (broadcast S32x128 8388608#32))))
    shapeCasts_S32x128_S32x128

/-- Its reciprocal. -/
def invOf (s : FVec F S32x128 .f32) : FVec F S32x128 .bf16 :=
  truncf .bf16
    (bitcastToFloat .f32
      (select (cmpi .eq (field s) (broadcast S32x128 0#32)) (broadcast S32x128 1065353216#32) (subi (broadcast S32x128 2122317824#32) (field s))))
    bitsLt_bf16_f32

/-- A block of values times the reciprocal, clipped to ±448 and rounded. -/
def codes (inv : FVec F S32x128 .bf16) (v : FVec F S32x128 .bf16) : FVec F S32x128 .fp8e4m3 :=
  truncf .fp8e4m3
    (minimumf (broadcast S32x128 (Scalar.truncf .bf16 bitsLt_bf16_f32 (Scalar.ofBits .f32 0x43E00000#32)))
      (maximumf (broadcast S32x128 (Scalar.truncf .bf16 bitsLt_bf16_f32 (Scalar.ofBits .f32 0xC3E00000#32)))
        (mulf (shapeCast S32x128 v shapeCasts_S32x128_S32x128) inv)))
    bitsLt_fp8e4m3_bf16

/-! ### The rectangles -/

theorem inbX (r k : ℕ) : ∀ a, (![32 * (r % 8), 128 * (k % 32)] : Fin 2 → ℕ) a + S32x128.size a ≤ S256x4096.size a := by
  have := Nat.mod_lt r (show 0 < 8 by decide); have := Nat.mod_lt k (show 0 < 32 by decide)
  intro a; match a with
  | ⟨0, _⟩ => show 32 * (r % 8) + 32 ≤ 256; omega
  | ⟨1, _⟩ => show 128 * (k % 32) + 128 ≤ 4096; omega

theorem inbS (r : ℕ) : ∀ a, (![32 * (r % 8), 0] : Fin 2 → ℕ) a + S32x128.size a ≤ S256x128.size a := by
  have := Nat.mod_lt r (show 0 < 8 by decide)
  intro a; match a with
  | ⟨0, _⟩ => show 32 * (r % 8) + 32 ≤ 256; omega
  | ⟨1, _⟩ => show 0 + 128 ≤ 128; omega

theorem inbSB (b : ℕ) : ∀ a, (![128 * (b % 2), 0] : Fin 2 → ℕ) a + S128x128.size a ≤ S256x128.size a := by
  have := Nat.mod_lt b (show 0 < 2 by decide)
  intro a; match a with
  | ⟨0, _⟩ => show 128 * (b % 2) + 128 ≤ 256; omega
  | ⟨1, _⟩ => show 0 + 128 ≤ 128; omega

theorem inbO (b : ℕ) : ∀ a, (![0, 0, 128 * (b % 2)] : Fin 3 → ℕ) a + S1x1x128.size a ≤ S1x1x256.size a := by
  have := Nat.mod_lt b (show 0 < 2 by decide)
  intro a; match a with
  | ⟨0, _⟩ => show 0 + 1 ≤ 1; omega
  | ⟨1, _⟩ => show 0 + 1 ≤ 1; omega
  | ⟨2, _⟩ => show 128 * (b % 2) + 128 ≤ 256; omega

theorem inbW (j : ℕ) : ∀ a, (![0, 512 * (j % 7)] : Fin 2 → ℕ) a + S4096x512.size a ≤ S4096x3584.size a := by
  have := Nat.mod_lt j (show 0 < 7 by decide)
  intro a; match a with
  | ⟨0, _⟩ => show 0 + 4096 ≤ 4096; omega
  | ⟨1, _⟩ => show 512 * (j % 7) + 512 ≤ 3584; omega

theorem inbWS (j q : ℕ) : ∀ a, (![4 * (j % 7) + q % 4, 0] : Fin 2 → ℕ) a + S1x128.size a ≤ S28x128.size a := by
  have := Nat.mod_lt j (show 0 < 7 by decide); have := Nat.mod_lt q (show 0 < 4 by decide)
  intro a; match a with
  | ⟨0, _⟩ => show 4 * (j % 7) + q % 4 + 1 ≤ 28; omega
  | ⟨1, _⟩ => show 0 + 128 ≤ 128; omega

theorem inbR (j b q : ℕ) : ∀ a, (![128 * (b % 2), 128 * (4 * (j % 7) + q % 4)] : Fin 2 → ℕ) a + S128x128.size a ≤ S256x3584.size a := by
  have := Nat.mod_lt j (show 0 < 7 by decide); have := Nat.mod_lt q (show 0 < 4 by decide); have := Nat.mod_lt b (show 0 < 2 by decide)
  intro a; match a with
  | ⟨0, _⟩ => show 128 * (b % 2) + 128 ≤ 256; omega
  | ⟨1, _⟩ => show 128 * (4 * (j % 7) + q % 4) + 128 ≤ 3584; omega

theorem slicesAcc (b q : ℕ) : S256x512.Slices ![128 * (b % 2), 128 * (q % 4)] S128x128 := by
  have h : ∀ b' : Fin 2, ∀ q' : Fin 4, S256x512.Slices ![128 * b'.val, 128 * q'.val] S128x128 := by decide
  exact h ⟨b % 2, Nat.mod_lt b (by decide)⟩ ⟨q % 4, Nat.mod_lt q (by decide)⟩

/-! ### What the run stores -/

variable (a2 : Memref sig .tc .vmem S256x4096 .bf16) (h2 : a2.IsWhole) (a3 : Memref sig .tc .vmem S4096x3584 .fp8e4m3) (h3 : a3.IsWhole)
  (a4 : Memref sig .tc .vmem S28x128 .f32) (h4 : a4.IsWhole) (a5 : Memref sig .tc .vmem S256x3584 .bf16) (h5 : a5.IsWhole)
  (a8 : Memref sig .tc .vmem S256x4096 .fp8e4m3) (a12 : Memref sig .tc .vmem S256x128 .f32)
  (x1 : Vec F S256x4096 .bf16) (x2 : Vec F S4096x3584 .fp8e4m3) (x3 : Vec F S28x128 .f32) (x4 : Vec F S256x3584 .bf16)

/-- Lane block `k` of row block `r` of the activations. -/
def ldX (r k : ℕ) : Vec F S32x128 .bf16 :=
  View.readAt (Elt F) a2.view (Rect.unit (s := S256x4096) ![32 * (r % 8), 128 * (k % 32)] S32x128.size (inbX r k)).toLoadRect (h2.unread x1)

/-- The scales, as the eight stores leave them. -/
def xsPieces : List (View.Piece (Elt F) S256x128 .f32) :=
  [7, 6, 5, 4, 3, 2, 1, 0].map fun r => ⟨Rect.unit (s := S256x128) ![32 * (r % 8), 0] S32x128.size (inbS r), scaleOf (scaled (ldX a2 h2 x1 r))⟩

/-- The codes, as the 256 stores leave them. -/
def xqPieces : List (View.Piece (Elt F) S256x4096 .fp8e4m3) :=
  [7, 6, 5, 4, 3, 2, 1, 0].flatMap fun r =>
    [31, 30, 29, 28, 27, 26, 25, 24, 23, 22, 21, 20, 19, 18, 17, 16, 15, 14, 13, 12, 11, 10, 9, 8, 7, 6, 5, 4, 3, 2, 1, 0].map fun k =>
      ⟨Rect.unit (s := S256x4096) ![32 * (r % 8), 128 * (k % 32)] S32x128.size (inbX r k), codes (invOf (scaled (ldX a2 h2 x1 r))) (ldX a2 h2 x1 r k)⟩

/-- The scales of 128 rows, read back. -/
def ldS (b : ℕ) : Vec F S128x128 .f32 :=
  a12.view.readCov (xsPieces a2 h2 x1) (Rect.unit (s := S256x128) ![128 * (b % 2), 0] S128x128.size (inbSB b)).toLoadRect

/-- The scales output. -/
def xsoPieces : List (View.Piece (Elt F) S1x1x256 .f32) :=
  [1, 0].map fun b => ⟨Rect.unit (s := S1x1x256) ![0, 0, 128 * (b % 2)] S1x1x128.size (inbO b),
    shapeCast S1x1x128
      (extractStridedSlice S1x128 ![0, 0] (transpose S128x128 [1, 0] (ldS a2 h2 a12 x1 b) transposes_S128x128_p1_0_S128x128) slices_S128x128_o0_0_S1x128)
      shapeCasts_S1x128_S1x1x128⟩

/-- The codes of the step, read back. -/
def ldQ : FVec F S256x4096 .fp8e4m3 :=
  shapeCast S256x4096 (a8.view.readCov (xqPieces a2 h2 x1) (Rect.unit (s := S256x4096) ![0, 0] S256x4096.size inb_S256x4096_S256x4096_0_0).toLoadRect)
    shapeCasts_S256x4096_S256x4096

/-- The product of the codes with 512 columns of the weights. -/
def acc (j : ℕ) : FVec F S256x512 .f32 :=
  matmul dot_S256x4096_S4096x512_S256x512_1_0_0_1_n_n none (ldQ a2 h2 a8 x1)
    (View.readAt (Elt F) a3.view (Rect.unit (s := S4096x3584) ![0, 512 * (j % 7)] S4096x512.size (inbW j)).toLoadRect (h3.unread x2))
    (constant S256x512 .f32 0x00000000#32)

/-- One block of the residual output. -/
def sum (j b q : ℕ) : FVec F S128x128 .bf16 :=
  truncf .bf16
    (addf
      (mulf (mulf (extractStridedSlice S128x128 ![128 * (b % 2), 128 * (q % 4)] (acc a2 h2 a3 h3 a8 x1 x2 j) (slicesAcc b q)) (ldS a2 h2 a12 x1 b))
        (broadcastTo S128x128
          (shapeCast S1x128
            (View.readAt (Elt F) a4.view (Rect.unit (s := S28x128) ![4 * (j % 7) + q % 4, 0] S1x128.size (inbWS j q)).toLoadRect (h4.unread x3))
            shapeCasts_S1x128_S1x128)
          broadcasts_S1x128_S128x128))
      (extf .f32
        (shapeCast S128x128
          (View.readAt (Elt F) a5.view (Rect.unit (s := S256x3584) ![128 * (b % 2), 128 * (4 * (j % 7) + q % 4)] S128x128.size (inbR j b q)).toLoadRect (h5.unread x4))
          shapeCasts_S128x128_S128x128)
        bitsLt_bf16_f32))
    bitsLt_bf16_f32

/-- The residual output, as the 56 stores leave it. -/
def roPieces : List (View.Piece (Elt F) S256x3584 .bf16) :=
  [6, 5, 4, 3, 2, 1, 0].flatMap fun j => [1, 0].flatMap fun b => [3, 2, 1, 0].map fun q =>
    ⟨Rect.unit (s := S256x3584) ![128 * (b % 2), 128 * (4 * (j % 7) + q % 4)] S128x128.size (inbR j b q),
      sum a2 h2 a3 h3 a4 h4 a5 h5 a8 a12 x1 x2 x3 x4 j b q⟩

end Cert.KernelIdeal.Blocks

end
-- ==== Proof.Exponent.lean ====
/-
  The power-of-two scale, two ways. The kernel builds the exponent field of a non-negative number from its highest bit
  down, by comparing the number with the power of two each candidate field denotes. The reference counts the powers of two that
  the number reaches. Here both are shown to give the same scale and the same reciprocal of the scale.
-/
module

public import Idealize.ShloMosaic.Lib.IndicatorCount
public import Idealize.ShloMosaic.Lib.ValueIdx
public import Idealize.ShloMosaic.PureOps.Ideal.Laws

@[expose] public section

noncomputable section

namespace Cert.Quant

open Idealize.ShloMosaic

/-- The f32 number whose exponent field is `E` and whose sign and fraction bits are zero. -/
def fieldVal (E : ℕ) : EReal := Ideal.ofBits .f32 (BitVec.ofNat 32 (E * 2 ^ 23))

/-- Off the two ends of the field it is the power of two `2 ^ (E - 127)`. -/
theorem fieldVal_eq {E : ℕ} (h1 : 1 ≤ E) (h : E ≤ 254) : fieldVal E = (((2 : ℝ) ^ ((E : ℤ) - 127) : ℝ) : EReal) := by
  have hs : (BitVec.ofNat 32 (E * 2 ^ 23)).toNat = E * 2 ^ 23 := by
    rw [BitVec.toNat_ofNat]; exact Nat.mod_eq_of_lt (by omega)
  have hneg : ((BitVec.ofNat 32 (E * 2 ^ 23)).extractLsb' (8 + 23) 1 == 1#1) = false := by
    rw [beq_eq_false_iff_ne]; intro hc
    have := congrArg BitVec.toNat hc
    rw [BitVec.extractLsb'_toNat, hs, Nat.shiftRight_eq_div_pow] at this
    have h2 : E * 2 ^ 23 / 2 ^ (8 + 23) = 0 := Nat.div_eq_of_lt (by omega)
    rw [h2] at this; simp at this
  have hex : ((BitVec.ofNat 32 (E * 2 ^ 23)).extractLsb' 23 8).toNat = E := by
    rw [BitVec.extractLsb'_toNat, hs, Nat.shiftRight_eq_div_pow, Nat.mul_div_cancel _ (by norm_num)]
    exact Nat.mod_eq_of_lt (by omega)
  have hfr : ((BitVec.ofNat 32 (E * 2 ^ 23)).extractLsb' 0 23).toNat = 0 := by
    rw [BitVec.extractLsb'_toNat, hs, Nat.shiftRight_zero, Nat.mul_mod_left]
  show Ideal.ieee 8 23 _ = _
  unfold Ideal.ieee
  simp only [hneg, hex, hfr]
  rw [if_neg (by norm_num; omega), if_neg (by omega)]
  have hr : (1 : ℝ) * ((2 ^ 23 + 0 : ℕ) : ℝ) * (2 : ℝ) ^ ((E : ℤ) - (2 ^ (8 - 1) - 1) - ((23 : ℕ) : ℤ)) = (2 : ℝ) ^ ((E : ℤ) - 127) := by
    rw [show ((1 : ℝ) * ((2 ^ 23 + 0 : ℕ) : ℝ)) = (2 : ℝ) ^ (23 : ℤ) by norm_num, ← zpow_add₀ (by norm_num)]
    congr 1; norm_num
  exact congrArg (fun r : ℝ => (r : EReal)) hr

theorem fieldVal_lt {E E' : ℕ} (h1 : 1 ≤ E) (hlt : E < E') (h : E' ≤ 254) : fieldVal E < fieldVal E' := by
  rw [fieldVal_eq h1 (by omega), fieldVal_eq (by omega) h, EReal.coe_lt_coe_iff]
  exact zpow_lt_zpow_right₀ (by norm_num) (by omega)

theorem fieldVal_le {E E' : ℕ} (h1 : 1 ≤ E) (hle : E ≤ E') (h : E' ≤ 254) : fieldVal E ≤ fieldVal E' := by
  rcases hle.lt_or_eq with h' | rfl
  · exact (fieldVal_lt h1 h' h).le
  · exact le_rfl

theorem fieldVal_top : fieldVal 255 = ⊤ := by
  unfold fieldVal Ideal.ofBits
  simp [Ideal.ieee]

/-- One bit of the kernel's search: keep the bit `c` when the number reaches the value of the field with it. -/
def bitStep (s : EReal) (e c : BitVec 32) : BitVec 32 :=
  Scalar.select (FloatOps.cmpf (F := Ideal) (φ := .f32) .oge s (FloatOps.ofBits (F := Ideal) .f32 (IntOp.addi e c))) (IntOp.addi e c) e

/-- After the bits from `j` up are settled: the field found so far is reached, and the one `2 ^ j` further is not. -/
def Settled (s : EReal) (e : BitVec 32) (j : ℕ) (E : ℕ) : Prop :=
  e = BitVec.ofNat 32 (E * 2 ^ 23) ∧ E + 2 ^ j ≤ 256 ∧ (E = 0 ∨ fieldVal E ≤ s) ∧ (E + 2 ^ j = 256 ∨ s < fieldVal (E + 2 ^ j))

theorem settled_step {s : EReal} {e : BitVec 32} {j E : ℕ} (h : Settled s e (j + 1) E) :
    ∃ E', Settled s (bitStep s e (BitVec.ofNat 32 (2 ^ j * 2 ^ 23))) j E' := by
  obtain ⟨he, hb, hlo, hhi⟩ := h
  have hp : 2 ^ (j + 1) = 2 ^ j + 2 ^ j := by rw [pow_succ]; ring
  have hadd : IntOp.addi e (BitVec.ofNat 32 (2 ^ j * 2 ^ 23)) = BitVec.ofNat 32 ((E + 2 ^ j) * 2 ^ 23) := by
    show e + _ = _
    rw [he, ← BitVec.ofNat_add, Nat.add_mul]
  have hstep : bitStep s e (BitVec.ofNat 32 (2 ^ j * 2 ^ 23))
      = if fieldVal (E + 2 ^ j) ≤ s then BitVec.ofNat 32 ((E + 2 ^ j) * 2 ^ 23) else e := by
    unfold bitStep
    rw [hadd]
    show Scalar.select (BitVec.ofBool (decide (fieldVal (E + 2 ^ j) ≤ s))) _ _ = _
    unfold Scalar.select
    by_cases hc : fieldVal (E + 2 ^ j) ≤ s
    · simp [hc]
    · simp [hc]
  rw [hstep]
  by_cases hc : fieldVal (E + 2 ^ j) ≤ s
  · refine ⟨E + 2 ^ j, ?_, by omega, Or.inr hc, ?_⟩
    · rw [if_pos hc]
    · rw [hp] at hhi; rw [add_assoc]; exact hhi
  · exact ⟨E, by rw [if_neg hc]; exact he, (Nat.add_le_add_left (Nat.pow_le_pow_right (by norm_num) (Nat.le_succ j)) E).trans hb, hlo, Or.inr (not_le.1 hc)⟩

/-- The exponent field the kernel finds: bits 30 down to 23, one after another. -/
def fieldOf (s : EReal) : BitVec 32 :=
  bitStep s (bitStep s (bitStep s (bitStep s (bitStep s (bitStep s (bitStep s (bitStep s 0#32
    1073741824#32) 536870912#32) 268435456#32) 134217728#32) 67108864#32) 33554432#32) 16777216#32) 8388608#32

/-- For a number below `2 ^ 126` the field found is at most 252, is reached, and the next one is not. -/
theorem fieldOf_spec {s : EReal} (hs : s < fieldVal 253) :
    ∃ E, E ≤ 252 ∧ fieldOf s = BitVec.ofNat 32 (E * 2 ^ 23) ∧ (E = 0 ∨ fieldVal E ≤ s) ∧ s < fieldVal (E + 1) := by
  have h8 : Settled s 0#32 8 0 := ⟨rfl, by norm_num, Or.inl rfl, Or.inl (by norm_num)⟩
  obtain ⟨E7, h7⟩ := settled_step h8
  obtain ⟨E6, h6⟩ := settled_step h7
  obtain ⟨E5, h5⟩ := settled_step h6
  obtain ⟨E4, h4⟩ := settled_step h5
  obtain ⟨E3, h3⟩ := settled_step h4
  obtain ⟨E2, h2⟩ := settled_step h3
  obtain ⟨E1, h1⟩ := settled_step h2
  obtain ⟨E, h0⟩ := settled_step h1
  obtain ⟨he, hb, hlo, hhi⟩ := h0
  have hE : E ≤ 252 := by
    by_contra hc
    rcases hlo with h | h
    · omega
    · rcases Nat.lt_or_ge E 255 with h' | h'
      · exact absurd ((fieldVal_le (E := 253) (E' := E) (by norm_num) (by omega) (by omega)).trans h) (not_le.2 hs)
      · have : E = 255 := by omega
        rw [this, fieldVal_top] at h
        exact absurd (le_trans le_top h) (not_le.2 hs)
  refine ⟨E, hE, he, hlo, ?_⟩
  rcases hhi with h | h
  · omega
  · exact h

/-- The scale the kernel stores: one for an empty field, else the power of two of the next field. -/
def kScale (s : EReal) : EReal :=
  FloatOps.ofBits (F := Ideal) .f32 (Scalar.select (IntOp.cmpi .eq (fieldOf s) 0#32) 1065353216#32 (IntOp.addi (fieldOf s) 8388608#32))

/-- The kernel's reciprocal of the scale. -/
def kInv (s : EReal) : EReal :=
  FloatOps.ofBits (F := Ideal) .f32 (Scalar.select (IntOp.cmpi .eq (fieldOf s) 0#32) 1065353216#32 (IntOp.subi 2122317824#32 (fieldOf s)))

/-- The reference's count of the powers of two `2 ^ (-126), …, 2 ^ 127` that `s` reaches. -/
def countOf (s : EReal) : BitVec 32 :=
  (Finset.univ : Finset (Fin 254)).fold IntOp.addi 0#32 fun k =>
    (FloatOps.cmpf (F := Ideal) (φ := .f32) .oge s
      (FloatOps.exp2 (F := Ideal) (φ := .f32) (FloatOps.sitofp (F := Ideal) .f32 (IntOp.subi (BitVec.ofNat 32 k.val) 126#32)))).setWidth 32

/-- The reference's exponent. -/
def refExp (s : EReal) : EReal :=
  FloatOps.sitofp (F := Ideal) .f32
    (Scalar.select (FloatOps.cmpf (F := Ideal) (φ := .f32) .olt s (FloatOps.ofBits (F := Ideal) .f32 0x00800000#32)) 0#32
      (IntOp.subi (countOf s) 126#32))

theorem toInt_sub126 {n : ℕ} (h : n ≤ 254) : (BitVec.ofNat 32 n - 126#32).toInt = (n : ℤ) - 126 := by
  have h1 : (BitVec.ofNat 32 n).toInt = (n : ℤ) := by
    rw [BitVec.toInt_eq_toNat_of_lt] <;> rw [BitVec.toNat_ofNat, Nat.mod_eq_of_lt] <;> omega
  rw [BitVec.toInt_sub, h1, show (126#32 : BitVec 32).toInt = 126 from rfl, Int.bmod_eq_of_le] <;> omega

theorem exp2_int (n : ℤ) : Ideal.exp2 (((n : ℤ) : ℝ) : EReal) = (((2 : ℝ) ^ n : ℝ) : EReal) := by
  show ((Real.rpow 2 (n : ℝ) : ℝ) : EReal) = _
  rw [show Real.rpow 2 (n : ℝ) = (2 : ℝ) ^ ((n : ℤ) : ℝ) from rfl, Real.rpow_intCast]

theorem power_eq (k : Fin 254) :
    FloatOps.exp2 (F := Ideal) (φ := .f32) (FloatOps.sitofp (F := Ideal) .f32 (IntOp.subi (BitVec.ofNat 32 k.val) 126#32)) = fieldVal (k.val + 1) := by
  show Ideal.exp2 ((((BitVec.ofNat 32 k.val - 126#32).toInt : ℤ) : ℝ) : EReal) = _
  rw [toInt_sub126 (by have := k.isLt; omega), exp2_int, fieldVal_eq (by omega) (by have := k.isLt; omega)]
  congr 2; push_cast; ring

theorem countOf_eq {s : EReal} {E : ℕ} (h1 : 1 ≤ E) (hE : E ≤ 252) (hlo : fieldVal E ≤ s) (hhi : s < fieldVal (E + 1)) :
    countOf s = BitVec.ofNat 32 E := by
  unfold countOf
  rw [IndicatorCount.fold_addi_setWidth_eq_card]
  congr 1
  have : (Finset.univ.filter fun k : Fin 254 => FloatOps.cmpf (F := Ideal) (φ := .f32) .oge s
      (FloatOps.exp2 (F := Ideal) (φ := .f32) (FloatOps.sitofp (F := Ideal) .f32 (IntOp.subi (BitVec.ofNat 32 k.val) 126#32))) = 1#1)
      = Finset.univ.filter fun k : Fin 254 => k.val < E := by
    apply Finset.filter_congr
    intro k _
    rw [power_eq]
    show BitVec.ofBool (decide (fieldVal (k.val + 1) ≤ s)) = 1#1 ↔ _
    have hk := k.isLt
    constructor
    · intro h
      by_contra hc
      have h' : fieldVal (k.val + 1) ≤ s := by
        by_contra hn; simp [hn] at h
      exact absurd ((fieldVal_le (by omega) (by omega) (by omega)).trans h') (not_le.2 hhi)
    · intro h
      have h' : fieldVal (k.val + 1) ≤ s := (fieldVal_le (by omega) (by omega) (by omega)).trans hlo
      simp [h']
  rw [this]
  have hc : (Finset.univ.filter fun k : Fin 254 => k.val < E) = Finset.Iio (⟨E, by omega⟩ : Fin 254) := by
    ext k; simp [Fin.lt_def]
  rw [hc, Fin.card_Iio]

theorem refExp_zero {s : EReal} (h : s < fieldVal 1) : refExp s = 0 := by
  unfold refExp
  have : FloatOps.cmpf (F := Ideal) (φ := .f32) .olt s (FloatOps.ofBits (F := Ideal) .f32 0x00800000#32) = 1#1 := by
    show BitVec.ofBool (decide (s < fieldVal 1)) = 1#1
    simp [h]
  rw [this]
  show (((BitVec.toInt (0#32) : ℤ) : ℝ) : EReal) = 0
  simp

theorem refExp_eq {s : EReal} {E : ℕ} (h1 : 1 ≤ E) (hE : E ≤ 252) (hlo : fieldVal E ≤ s) (hhi : s < fieldVal (E + 1)) :
    refExp s = ((((E : ℤ) - 126 : ℤ) : ℝ) : EReal) := by
  unfold refExp
  have : FloatOps.cmpf (F := Ideal) (φ := .f32) .olt s (FloatOps.ofBits (F := Ideal) .f32 0x00800000#32) = 0#1 := by
    show BitVec.ofBool (decide (s < fieldVal 1)) = 0#1
    have : ¬ s < fieldVal 1 := not_lt.2 ((fieldVal_le (by norm_num) h1 (by omega)).trans hlo)
    simp [this]
  rw [this, countOf_eq h1 hE hlo hhi]
  show (((BitVec.toInt (BitVec.ofNat 32 E - 126#32) : ℤ) : ℝ) : EReal) = _
  rw [toInt_sub126 (by omega)]

theorem field_zero_iff {E : ℕ} (hE : E ≤ 252) : (BitVec.ofNat 32 (E * 2 ^ 23) = 0#32) ↔ E = 0 := by
  constructor
  · intro h
    have := congrArg BitVec.toNat h
    rw [BitVec.toNat_ofNat, Nat.mod_eq_of_lt (by omega)] at this
    simpa using this
  · rintro rfl; rfl

theorem one_bits : FloatOps.ofBits (F := Ideal) .f32 1065353216#32 = (1 : EReal) := by
  have : fieldVal 127 = 1 := by rw [fieldVal_eq (by norm_num) (by norm_num)]; norm_num
  exact this

/-- The two scales agree. -/
theorem kScale_eq {s : EReal} (hs : s < fieldVal 253) : kScale s = Ideal.exp2 (refExp s) := by
  obtain ⟨E, hE, he, hlo, hhi⟩ := fieldOf_spec hs
  unfold kScale
  rw [he]
  by_cases h0 : E = 0
  · subst h0
    rw [refExp_zero hhi]
    refine Eq.trans (b := (1 : EReal)) one_bits ?_
    have := exp2_int 0
    simpa using this.symm
  · have hlo' := hlo.resolve_left h0
    rw [refExp_eq (by omega) hE hlo' hhi, exp2_int]
    have hc : IntOp.cmpi .eq (BitVec.ofNat 32 (E * 2 ^ 23)) 0#32 = 0#1 := by
      show BitVec.ofBool (decide _) = _
      have : ¬ (BitVec.ofNat 32 (E * 2 ^ 23) = 0#32) := fun h => h0 ((field_zero_iff hE).1 h)
      simp only [this, decide_false]; rfl
    rw [hc]
    have ha : IntOp.addi (BitVec.ofNat 32 (E * 2 ^ 23)) 8388608#32 = BitVec.ofNat 32 ((E + 1) * 2 ^ 23) := by
      show _ + BitVec.ofNat 32 8388608 = _
      rw [← BitVec.ofNat_add, Nat.add_mul, show 1 * 2 ^ 23 = 8388608 by norm_num]
    rw [ha]
    show fieldVal (E + 1) = _
    rw [fieldVal_eq (by omega) (by omega)]
    congr 2; push_cast; ring

/-- The two reciprocals agree. -/
theorem kInv_eq {s : EReal} (hs : s < fieldVal 253) : kInv s = Ideal.exp2 (0 - refExp s) := by
  obtain ⟨E, hE, he, hlo, hhi⟩ := fieldOf_spec hs
  unfold kInv
  rw [he]
  by_cases h0 : E = 0
  · subst h0
    rw [refExp_zero hhi]
    refine Eq.trans (b := (1 : EReal)) one_bits ?_
    have := exp2_int 0
    simpa using this.symm
  · have hlo' := hlo.resolve_left h0
    rw [refExp_eq (by omega) hE hlo' hhi]
    have hz : (0 : EReal) - ((((E : ℤ) - 126 : ℤ) : ℝ) : EReal) = (((126 - (E : ℤ) : ℤ) : ℝ) : EReal) := by
      rw [← EReal.coe_zero, ← EReal.coe_sub]; congr 1; push_cast; ring
    rw [hz, exp2_int]
    have hc : IntOp.cmpi .eq (BitVec.ofNat 32 (E * 2 ^ 23)) 0#32 = 0#1 := by
      show BitVec.ofBool (decide _) = _
      have : ¬ (BitVec.ofNat 32 (E * 2 ^ 23) = 0#32) := fun h => h0 ((field_zero_iff hE).1 h)
      simp only [this, decide_false]; rfl
    rw [hc]
    have ha : IntOp.subi 2122317824#32 (BitVec.ofNat 32 (E * 2 ^ 23)) = BitVec.ofNat 32 ((253 - E) * 2 ^ 23) := by
      show 2122317824#32 - _ = _
      apply BitVec.eq_of_toNat_eq
      rw [BitVec.toNat_sub, BitVec.toNat_ofNat, BitVec.toNat_ofNat, BitVec.toNat_ofNat]
      omega
    rw [ha]
    show fieldVal (253 - E) = _
    rw [fieldVal_eq (by omega) (by omega)]
    congr 2; omega

end Cert.Quant
-- ==== Proof.KernelValue.lean ====
/- The values of the kernel's stores over the extended reals: the scale of a row, the code of an entry and the residual
   sum, each as one formula of the step's input blocks. -/
module

public import proofs.«01_k».proof.Proof.Blocks
public import proofs.«01_k».proof.Proof.Exponent
public import Idealize.ShloMosaic.Lib.ValueIdx
public import Idealize.ShloMosaic.Lib.WholeRead
public import Idealize.ShloMosaic.Lib.Pipeline.Value
public import Idealize.ShloMosaic.PureOps.Ideal.Laws

@[expose] public section

set_option maxRecDepth 16384

noncomputable section

namespace Cert.Quant

open Idealize.ShloMosaic

/-- The largest absolute value of a row of `n` numbers. -/
def rowMax {n : ℕ} (f : Fin n → EReal) : EReal := (Finset.univ : Finset (Fin n)).sup fun c => max (f c) (-(f c))

/-- It times the f32 number nearest 1/448. -/
def rowS {n : ℕ} (f : Fin n → EReal) : EReal := rowMax f * FloatOps.ofBits (F := Ideal) .f32 0x3B124925#32

/-- Clipping to ±448. -/
def clip (t : EReal) : EReal :=
  min (FloatOps.ofBits (F := Ideal) .f32 0x43E00000#32) (max (FloatOps.ofBits (F := Ideal) .f32 0xC3E00000#32) t)

theorem negInf : FloatOps.ofBits (F := Ideal) .f32 0xFF800000#32 = (⊥ : EReal) := by
  show Ideal.ofBits .f32 0xFF800000#32 = ⊥
  unfold Ideal.ofBits
  simp [Ideal.ieee]

theorem fold_max_eq {n : ℕ} (f : Fin n → EReal) :
    (Finset.univ : Finset (Fin n)).fold max (FloatOps.ofBits (F := Ideal) .f32 0xFF800000#32) f = Finset.univ.sup f := by
  rw [negInf]; rfl

/-- The row's maximum, taken lane by lane over lane blocks and then over the lanes. -/
theorem sup_blocks (g : Fin 4096 → EReal) :
    (Finset.univ : Finset (Fin 128)).sup (fun l => (Finset.range 32).sup fun k => g ⟨128 * (k % 32) + l.val, by have := l.isLt; omega⟩)
      = Finset.univ.sup g := by
  apply le_antisymm
  · refine Finset.sup_le fun l _ => Finset.sup_le fun k _ => ?_
    exact Finset.le_sup (f := g) (Finset.mem_univ _)
  · refine Finset.sup_le fun c _ => ?_
    have hc := c.isLt
    have e : g c = g ⟨128 * ((c.val / 128) % 32) + (⟨c.val % 128, Nat.mod_lt _ (by decide)⟩ : Fin 128).val, by show 128 * ((c.val / 128) % 32) + c.val % 128 < 4096; omega⟩ :=
      congrArg g (Fin.ext (by show c.val = 128 * ((c.val / 128) % 32) + c.val % 128; omega))
    rw [e]
    refine le_trans ?_ (Finset.le_sup (f := fun l : Fin 128 => (Finset.range 32).sup fun k => g ⟨128 * (k % 32) + l.val, by have := l.isLt; omega⟩)
      (Finset.mem_univ ⟨c.val % 128, Nat.mod_lt _ (by decide)⟩))
    exact Finset.le_sup (f := fun k => g ⟨128 * (k % 32) + (⟨c.val % 128, Nat.mod_lt _ (by decide)⟩ : Fin 128).val, by show 128 * (k % 32) + c.val % 128 < 4096; omega⟩)
      (Finset.mem_range.mpr (show c.val / 128 < 32 by omega))

end Cert.Quant

namespace Cert.KernelIdeal.Blocks

open Cert.KernelIdeal Cert.KernelIdeal.Gen Idealize.ShloMosaic Idealize.ShloMosaic.TcCoe Idealize.ShloMosaic.Tactic Idealize.SL.Sem Idealize.ShloMosaic.ValueIdx Cert.Quant

/-! ### One block at an index -/

theorem maxUpTo_apply (l : ℕ → FVec Ideal S32x128 .bf16) (n : ℕ) (j : S32x128.Idx) :
    maxUpTo l n j = (Finset.range (n + 1)).sup fun k => max (l k j : EReal) (-(l k j)) := by
  induction n with
  | zero =>
    show max (shapeCast S32x128 (l 0) _ j : EReal) (-(shapeCast S32x128 (l 0) _ j)) = _
    rw [shapeCast_self]; simp
  | succ n ih =>
    show max (maxUpTo l n j : EReal) (max (shapeCast S32x128 (l (n + 1)) _ j : EReal) (-(shapeCast S32x128 (l (n + 1)) _ j))) = _
    rw [shapeCast_self, ih, Finset.range_add_one (n := n + 1), Finset.sup_insert]
    exact max_comm _ _

theorem scaled_apply (l : ℕ → FVec Ideal S32x128 .bf16) (j : S32x128.Idx) :
    scaled l j = ((Finset.univ : Finset (Fin 128)).sup fun k : Fin 128 =>
        (Finset.range 32).sup fun n => max (l n (ix2 (j 0 : Fin 32) k) : EReal) (-(l n (ix2 (j 0 : Fin 32) k))))
      * FloatOps.ofBits (F := Ideal) .f32 0x3B124925#32 := by
  unfold scaled
  refine (broadcastTo_apply _ _ j (ix2 (j 0 : Fin 32) (0 : Fin 1)) (fun a => by match a with | ⟨0, _⟩ => rfl | ⟨1, _⟩ => rfl)).trans ?_
  rw [shapeCast_self]
  refine (mulf_apply _ _ _).trans ?_
  refine congrArg₂ (· * ·) ?_ rfl
  refine (shapeCast_apply _ _ (ix2 (j 0 : Fin 32) (0 : Fin 1)) (ix1 (j 0 : Fin 32)) (by
    rw [Shape.rowMajor_val_two, Shape.rowMajor_val_one]; show (j 0).val = (j 0).val * 1 + 0; omega)).trans ?_
  refine (Ideal.multiReduction_maximumf_single _ _ reduces_S32x128_S32 _ _ _).trans ?_
  refine (fold_max_eq _).trans ?_
  refine Finset.sup_congr rfl fun k _ => ?_
  refine Eq.trans ?_ (maxUpTo_apply l 31 (ix2 (j 0 : Fin 32) k))
  refine congrArg (maxUpTo l 31) ?_
  funext a
  match a with | ⟨0, _⟩ => rfl | ⟨1, _⟩ => rfl

theorem digit_apply (s : FVec Ideal S32x128 .f32) (e : IVec S32x128 32) (b : BitVec 32) (j : S32x128.Idx) :
    digit s e b j = bitStep (s j) (e j) b := rfl

theorem field_apply (s : FVec Ideal S32x128 .f32) (j : S32x128.Idx) : field s j = fieldOf (s j) := by
  have h (e : IVec S32x128 32) (e' : BitVec 32) (b : BitVec 32) (he : e j = e') : digit s e b j = bitStep (s j) e' b :=
    he ▸ digit_apply s e b j
  unfold field fieldOf
  exact h _ _ _ (h _ _ _ (h _ _ _ (h _ _ _ (h _ _ _ (h _ _ _ (h _ _ _ (h _ _ _ rfl)))))))

theorem scaleOf_apply (s : FVec Ideal S32x128 .f32) (j : S32x128.Idx) : scaleOf s j = kScale (s j) := by
  unfold scaleOf kScale
  rw [shapeCast_self, ← field_apply s j]
  rfl

theorem invOf_apply (s : FVec Ideal S32x128 .f32) (j : S32x128.Idx) : invOf s j = kInv (s j) := by
  unfold invOf kInv
  rw [← field_apply s j]
  rfl

theorem codes_apply (inv v : FVec Ideal S32x128 .bf16) (j : S32x128.Idx) :
    codes inv v j = clip ((v j : EReal) * inv j) := by
  unfold codes; rw [shapeCast_self]; rfl

/-! ### The stores -/

variable (a2 : Memref sig .tc .vmem S256x4096 .bf16) (h2 : a2.IsWhole) (a3 : Memref sig .tc .vmem S4096x3584 .fp8e4m3) (h3 : a3.IsWhole)
  (a4 : Memref sig .tc .vmem S28x128 .f32) (h4 : a4.IsWhole) (a5 : Memref sig .tc .vmem S256x3584 .bf16) (h5 : a5.IsWhole)
  (a8 : Memref sig .tc .vmem S256x4096 .fp8e4m3) (a12 : Memref sig .tc .vmem S256x128 .f32)
  (x1 : Vec Ideal S256x4096 .bf16) (x2 : Vec Ideal S4096x3584 .fp8e4m3) (x3 : Vec Ideal S28x128 .f32) (x4 : Vec Ideal S256x3584 .bf16)

/-- The scaled maximum of row `r` of the step's activations. -/
def rowOf (r : Fin 256) : EReal := rowS fun c : Fin 4096 => (x1 (ix2 r c) : EReal)

/-- The code of an entry. -/
def codeOf (r : Fin 256) (c : Fin 4096) : EReal := clip ((x1 (ix2 r c) : EReal) * kInv (rowOf x1 r))

theorem ldX_apply (r k : ℕ) (j : S32x128.Idx) (R : Fin 256) (C : Fin 4096) (hR : R.val = 32 * (r % 8) + (j 0).val)
    (hC : C.val = 128 * (k % 32) + (j 1).val) : ldX a2 h2 x1 r k j = x1 (ix2 R C) := by
  refine (h2.readAt_unread x1 (Rect.unit (s := S256x4096) ![32 * (r % 8), 128 * (k % 32)] S32x128.size (inbX r k)).toLoadRect j).trans ?_
  refine congrArg x1 ?_
  funext a
  match a with
  | ⟨0, _⟩ => exact Fin.ext (by show 32 * (r % 8) + 1 * (j 0).val = R.val; omega)
  | ⟨1, _⟩ => exact Fin.ext (by show 128 * (k % 32) + 1 * (j 1).val = C.val; omega)

theorem scaled_ldX (r : ℕ) (j : S32x128.Idx) (R : Fin 256) (hR : R.val = 32 * (r % 8) + (j 0).val) :
    scaled (ldX a2 h2 x1 r) j = rowOf x1 R := by
  rw [scaled_apply]
  unfold rowOf rowS rowMax
  refine congrArg₂ (· * ·) ?_ rfl
  rw [← sup_blocks]
  refine Finset.sup_congr rfl fun l _ => Finset.sup_congr rfl fun k _ => ?_
  have hl := l.isLt
  rw [ldX_apply a2 h2 x1 r k (ix2 (j 0 : Fin 32) l) R ⟨128 * (k % 32) + l.val, by omega⟩ hR rfl]

theorem xsPieces_apply (y : S256x128.Idx) :
    View.canon (xsPieces a2 h2 x1) y = kScale (rowOf x1 (y 0 : Fin 256)) := by
  refine View.canon_apply_of_pieces (fun y : S256x128.Idx => (kScale (rowOf x1 (y 0 : Fin 256)) : Elt Ideal .f32)) _ ?_ y
    (View.cover_of_tiledL (xsPieces a2 h2 x1) ![32, 128] (by sl_kernel_rfl) y)
  intro p hp x
  obtain ⟨r, -, rfl⟩ := List.mem_map.mp hp
  refine (scaleOf_apply _ _).trans ?_
  exact congrArg kScale (scaled_ldX a2 h2 x1 r x _ (by show 32 * (r % 8) + 1 * (x 0).val = _; omega))

theorem xqPieces_apply (y : S256x4096.Idx) :
    View.canon (xqPieces a2 h2 x1) y = codeOf x1 (y 0 : Fin 256) (y 1 : Fin 4096) := by
  refine View.canon_apply_of_pieces (fun y : S256x4096.Idx => (codeOf x1 (y 0 : Fin 256) (y 1 : Fin 4096) : Elt Ideal .fp8e4m3)) _ ?_ y
    (View.cover_of_tiledL (xqPieces a2 h2 x1) ![32, 128] (by sl_kernel_rfl) y)
  intro p hp x
  obtain ⟨r, -, hp⟩ := List.mem_flatMap.mp hp
  obtain ⟨k, -, rfl⟩ := List.mem_map.mp hp
  refine (codes_apply _ _ _).trans ?_
  refine congrArg clip ?_
  refine congrArg₂ (· * ·) ?_ ?_
  · exact ldX_apply a2 h2 x1 r k x _ _ (by show 32 * (r % 8) + 1 * (x 0).val = _; omega) (by show 128 * (k % 32) + 1 * (x 1).val = _; omega)
  · refine (invOf_apply _ _).trans ?_
    exact congrArg kInv (scaled_ldX a2 h2 x1 r x _ (by show 32 * (r % 8) + 1 * (x 0).val = _; omega))

theorem ldS_apply (b : ℕ) (j : S128x128.Idx) (R : Fin 256) (hR : R.val = 128 * (b % 2) + (j 0).val) :
    ldS a2 h2 a12 x1 b j = kScale (rowOf x1 R) := by
  unfold ldS
  rw [View.readCov_eq_canon']
  refine (xsPieces_apply a2 h2 x1 _).trans ?_
  refine congrArg (fun r => kScale (rowOf x1 r)) (Fin.ext ?_)
  show 128 * (b % 2) + 1 * (j 0).val = R.val; omega

theorem xsoBlock_apply (b : ℕ) (x : S1x1x128.Idx) (R : Fin 256) (hR : R.val = 128 * (b % 2) + (x 2).val) :
    (shapeCast S1x1x128
      (extractStridedSlice S1x128 ![0, 0] (transpose S128x128 [1, 0] (ldS a2 h2 a12 x1 b) transposes_S128x128_p1_0_S128x128) slices_S128x128_o0_0_S1x128)
      shapeCasts_S1x128_S1x1x128 : FVec Ideal S1x1x128 .f32) x = kScale (rowOf x1 R) := by
  have x0 : (x 0).val = 0 := by have : (x 0).val < 1 := (x 0).isLt; omega
  have x1' : (x 1).val = 0 := by have : (x 1).val < 1 := (x 1).isLt; omega
  refine (shapeCast_apply _ _ x (ix2 (0 : Fin 1) (x 2 : Fin 128)) (by
    rw [Shape.rowMajor_val_two, Shape.rowMajor_val_three]
    show 0 * 128 + (x 2).val = ((x 0).val * 1 + (x 1).val) * 128 + (x 2).val; omega)).trans ?_
  refine (extractStridedSlice_apply _ _ _ _ (ix2 (0 : Fin 128) (x 2 : Fin 128)) (fun a => by
    match a with | ⟨0, _⟩ => rfl | ⟨1, _⟩ => (show (x 2).val = 0 + (x 2).val; omega))).trans ?_
  refine (transpose_apply _ _ _ _ (ix2 (x 2 : Fin 128) (0 : Fin 128)) (fun a => by
    match a with | ⟨0, _⟩ => rfl | ⟨1, _⟩ => rfl)).trans ?_
  exact ldS_apply a2 h2 a12 x1 b _ R hR

theorem xsoPieces_apply (y : S1x1x256.Idx) :
    View.canon (xsoPieces a2 h2 a12 x1) y = kScale (rowOf x1 (y 2 : Fin 256)) := by
  refine View.canon_apply_of_pieces (fun y : S1x1x256.Idx => (kScale (rowOf x1 (y 2 : Fin 256)) : Elt Ideal .f32)) _ ?_ y
    (View.cover_of_tiledL (xsoPieces a2 h2 a12 x1) ![1, 1, 128] (by sl_kernel_rfl) y)
  intro p hp x
  obtain ⟨b, -, rfl⟩ := List.mem_map.mp hp
  exact xsoBlock_apply a2 h2 a12 x1 b x _ (by show 128 * (b % 2) + 1 * (x 2).val = 128 * (b % 2) + (x 2).val; omega)

theorem ldQ_apply (j : S256x4096.Idx) : ldQ a2 h2 a8 x1 j = codeOf x1 (j 0 : Fin 256) (j 1 : Fin 4096) := by
  unfold ldQ
  refine (congrFun (shapeCast_self _ _) j).trans ?_
  rw [View.readCov_eq_canon']
  refine (xqPieces_apply a2 h2 x1 _).trans ?_
  refine congrArg₂ (codeOf x1) (Fin.ext ?_) (Fin.ext ?_)
  · show 0 + 1 * (j 0).val = (j 0).val; omega
  · show 0 + 1 * (j 1).val = (j 1).val; omega

theorem acc_apply (j : ℕ) (y : S256x512.Idx) (C : Fin 3584) (hC : C.val = 512 * (j % 7) + (y 1).val) :
    acc a2 h2 a3 h3 a8 x1 x2 j y = ∑ k : Fin 4096, codeOf x1 (y 0 : Fin 256) k * (x2 (ix2 k C) : EReal) := by
  unfold acc
  refine (Ideal.matmul_constant_zero_apply (φ₂ := .fp8e4m3) dot_S256x4096_S4096x512_S256x512_1_0_0_1_n_n none (ldQ a2 h2 a8 x1) _ y).trans ?_
  refine (Equiv.sum_comp (contrEquiv1 dot_S256x4096_S4096x512_S256x512_1_0_0_1_n_n 4096 rfl rfl).symm _).symm.trans ?_
  refine Finset.sum_congr rfl fun k _ => ?_
  refine congrArg₂ (· * ·) ?_ ?_
  · exact (ldQ_apply a2 h2 a8 x1 _)
  · refine (h3.readAt_unread x2 _ _).trans (congrArg x2 ?_)
    funext a
    match a with
    | ⟨0, _⟩ => exact Fin.ext (by show 0 + 1 * k.val = k.val; omega)
    | ⟨1, _⟩ => exact Fin.ext (by show 512 * (j % 7) + 1 * (y 1).val = C.val; omega)

/-- An entry of the residual output. -/
def sumOf (r : Fin 256) (c : Fin 3584) : EReal :=
  ((∑ k : Fin 4096, codeOf x1 r k * (x2 (ix2 k c) : EReal)) * kScale (rowOf x1 r))
      * (x3 (ix2 (⟨c.val / 128, by have := c.isLt; omega⟩ : Fin 28) (⟨c.val % 128, Nat.mod_lt _ (by decide)⟩ : Fin 128)) : EReal)
    + (x4 (ix2 r c) : EReal)

theorem roPieces_apply (y : S256x3584.Idx) :
    View.canon (roPieces a2 h2 a3 h3 a4 h4 a5 h5 a8 a12 x1 x2 x3 x4) y = sumOf x1 x2 x3 x4 (y 0 : Fin 256) (y 1 : Fin 3584) := by
  refine View.canon_apply_of_pieces (fun y : S256x3584.Idx => (sumOf x1 x2 x3 x4 (y 0 : Fin 256) (y 1 : Fin 3584) : Elt Ideal .bf16)) _ ?_ y
    (View.cover_of_tiledL (roPieces a2 h2 a3 h3 a4 h4 a5 h5 a8 a12 x1 x2 x3 x4) ![128, 128] (by sl_kernel_rfl) y)
  intro p hp x
  obtain ⟨j, -, hp⟩ := List.mem_flatMap.mp hp
  obtain ⟨b, -, hp⟩ := List.mem_flatMap.mp hp
  obtain ⟨q, -, rfl⟩ := List.mem_map.mp hp
  have hx0 : (x 0).val < 128 := (x 0).isLt
  have hx1 : (x 1).val < 128 := (x 1).isLt
  have hj := Nat.mod_lt j (show 0 < 7 by decide); have hq := Nat.mod_lt q (show 0 < 4 by decide); have hb := Nat.mod_lt b (show 0 < 2 by decide)
  generalize hR : (Rect.unit (s := S256x3584) ![128 * (b % 2), 128 * (4 * (j % 7) + q % 4)] S128x128.size (inbR j b q)).emb x = y'
  have e0 : (y' 0).val = 128 * (b % 2) + (x 0).val := by rw [← hR]; show 128 * (b % 2) + 1 * (x 0).val = _; omega
  have e1 : (y' 1).val = 128 * (4 * (j % 7) + q % 4) + (x 1).val := by
    rw [← hR]; show 128 * (4 * (j % 7) + q % 4) + 1 * (x 1).val = _; omega
  show sum a2 h2 a3 h3 a4 h4 a5 h5 a8 a12 x1 x2 x3 x4 j b q x = sumOf x1 x2 x3 x4 (y' 0 : Fin 256) (y' 1 : Fin 3584)
  unfold sum sumOf
  rw [truncf_apply, addf_apply, mulf_apply, mulf_apply, extf_apply]
  refine congrArg₂ (· + ·) (congrArg₂ (· * ·) (congrArg₂ (· * ·) ?_ ?_) ?_) ?_
  · refine (extractStridedSlice_apply _ _ _ _ (ix2 (y' 0 : Fin 256) (⟨128 * (q % 4) + (x 1).val, by omega⟩ : Fin 512)) (fun a => by
      match a with
      | ⟨0, _⟩ => (show (y' 0).val = 128 * (b % 2) + (x 0).val; exact e0)
      | ⟨1, _⟩ => rfl)).trans ?_
    exact acc_apply a2 h2 a3 h3 a8 x1 x2 j _ (y' 1 : Fin 3584) (by rw [e1]; show _ = 512 * (j % 7) + (128 * (q % 4) + (x 1).val); omega)
  · exact ldS_apply a2 h2 a12 x1 b x _ e0
  · refine (broadcastTo_apply _ _ x (ix2 (0 : Fin 1) (x 1 : Fin 128)) (fun a => by match a with | ⟨0, _⟩ => rfl | ⟨1, _⟩ => rfl)).trans ?_
    refine (congrFun (shapeCast_self _ _) _).trans ?_
    refine (h4.readAt_unread x3 _ _).trans (congrArg x3 ?_)
    funext a
    match a with
    | ⟨0, _⟩ => exact Fin.ext (by show 4 * (j % 7) + q % 4 + 1 * 0 = (y' 1).val / 128; omega)
    | ⟨1, _⟩ => exact Fin.ext (by show 0 + 1 * (x 1).val = (y' 1).val % 128; omega)
  · refine (congrFun (shapeCast_self _ _) _).trans ?_
    refine (h5.readAt_unread x4 _ _).trans (congrArg x4 ?_)
    funext a
    match a with
    | ⟨0, _⟩ => exact Fin.ext (by show 128 * (b % 2) + 1 * (x 0).val = (y' 0).val; omega)
    | ⟨1, _⟩ => exact Fin.ext (by show 128 * (4 * (j % 7) + q % 4) + 1 * (x 1).val = (y' 1).val; omega)

end Cert.KernelIdeal.Blocks

end
-- ==== Proof.Pieces.lean ====
/- The run's stores into the three claimed outputs are the blocks of `Blocks.lean`: each list of stores the run found is,
   by unfolding alone, the list written there. -/
module

public import proofs.«01_k».proof.Proof.Blocks
public import proofs.«01_k».proof.Proof.Gen.KernelIdeal.Frame

@[expose] public section

set_option maxRecDepth 16384

noncomputable section

namespace Cert.KernelIdeal.Blocks

open Cert.KernelIdeal Cert.KernelIdeal.Gen Idealize.ShloMosaic Idealize.ShloMosaic.TcCoe Idealize.ShloMosaic.Tactic Idealize.SL.Sem

variable {F : FTy → Type} [FloatOps F]

section
variable (c : Dev nD) (i : grid0.Coords) (arg1 : Memref sig .tc .smem S1 .f32) (harg1 : arg1.IsWhole) (arg2 : Memref sig .tc .vmem S256x4096 .bf16) (harg2 : arg2.IsWhole) (arg3 : Memref sig .tc .vmem S4096x3584 .fp8e4m3) (harg3 : arg3.IsWhole) (arg4 : Memref sig .tc .vmem S28x128 .f32) (harg4 : arg4.IsWhole) (arg5 : Memref sig .tc .vmem S256x3584 .bf16) (harg5 : arg5.IsWhole) (arg6 : Memref sig .tc .vmem S28x128 .bf16) (harg6 : arg6.IsWhole) (arg7 : Memref sig .tc .vmem S256x3584 .bf16) (harg7 : arg7.IsWhole) (arg8 : Memref sig .tc .vmem S256x4096 .fp8e4m3) (harg8 : arg8.IsWhole) (arg9 : Memref sig .tc .vmem S1x1x256 .f32) (harg9 : arg9.IsWhole) (arg10 : Memref sig .tc .vmem S256x1792 .i8) (harg10 : arg10.IsWhole) (arg11 : Memref sig .tc .vmem S1x224x256 .fp8e4m3) (harg11 : arg11.IsWhole) (arg12 : Memref sig .tc .vmem S256x128 .f32) (harg12 : arg12.IsWhole) (arg13 : Memref sig .tc .vmem S3584x128 .f32) (harg13 : arg13.IsWhole) (arg14 : Memref sig .tc .vmem S2x3584x128 .f32) (harg14 : arg14.IsWhole) (arg15 : Memref sig .tc .vmem S4x72x128 .f32) (harg15 : arg15.IsWhole) (arg16 : Memref sig .tc .vmem S2x224x128 .f32) (harg16 : arg16.IsWhole) (arg17 : Memref sig .tc .vmem S2x224x128 .f32) (harg17 : arg17.IsWhole) (arg18 : Memref sig .tc .vmem S2x16x128 .f32) (harg18 : arg18.IsWhole) (hc0 : cond0_0 i)
    (x0 : Vec F S1 .f32) (x1 : Vec F S256x4096 .bf16) (x2 : Vec F S4096x3584 .fp8e4m3) (x3 : Vec F S28x128 .f32) (x4 : Vec F S256x3584 .bf16) (x5 : Vec F S28x128 .bf16)

theorem xs_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5).2.2.1 = xsoPieces arg2 harg2 arg12 x1 := by sl_kernel_rfl

theorem xq_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5).2.1 = xqPieces arg2 harg2 x1 := by sl_kernel_rfl

theorem ro_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5).1 = roPieces arg2 harg2 arg3 harg3 arg4 harg4 arg5 harg5 arg8 arg12 x1 x2 x3 x4 := by sl_kernel_rfl

end

section
variable (c : Dev nD) (i : grid0.Coords) (arg1 : Memref sig .tc .smem S1 .f32) (harg1 : arg1.IsWhole) (arg2 : Memref sig .tc .vmem S256x4096 .bf16) (harg2 : arg2.IsWhole) (arg3 : Memref sig .tc .vmem S4096x3584 .fp8e4m3) (harg3 : arg3.IsWhole) (arg4 : Memref sig .tc .vmem S28x128 .f32) (harg4 : arg4.IsWhole) (arg5 : Memref sig .tc .vmem S256x3584 .bf16) (harg5 : arg5.IsWhole) (arg6 : Memref sig .tc .vmem S28x128 .bf16) (harg6 : arg6.IsWhole) (arg7 : Memref sig .tc .vmem S256x3584 .bf16) (harg7 : arg7.IsWhole) (arg8 : Memref sig .tc .vmem S256x4096 .fp8e4m3) (harg8 : arg8.IsWhole) (arg9 : Memref sig .tc .vmem S1x1x256 .f32) (harg9 : arg9.IsWhole) (arg10 : Memref sig .tc .vmem S256x1792 .i8) (harg10 : arg10.IsWhole) (arg11 : Memref sig .tc .vmem S1x224x256 .fp8e4m3) (harg11 : arg11.IsWhole) (arg12 : Memref sig .tc .vmem S256x128 .f32) (harg12 : arg12.IsWhole) (arg13 : Memref sig .tc .vmem S3584x128 .f32) (harg13 : arg13.IsWhole) (arg14 : Memref sig .tc .vmem S2x3584x128 .f32) (harg14 : arg14.IsWhole) (arg15 : Memref sig .tc .vmem S4x72x128 .f32) (harg15 : arg15.IsWhole) (arg16 : Memref sig .tc .vmem S2x224x128 .f32) (harg16 : arg16.IsWhole) (arg17 : Memref sig .tc .vmem S2x224x128 .f32) (harg17 : arg17.IsWhole) (arg18 : Memref sig .tc .vmem S2x16x128 .f32) (harg18 : arg18.IsWhole) (hc0 : ¬cond0_0 i)
    (x0 : Vec F S1 .f32) (x1 : Vec F S256x4096 .bf16) (x2 : Vec F S4096x3584 .fp8e4m3) (x3 : Vec F S28x128 .f32) (x4 : Vec F S256x3584 .bf16) (x5 : Vec F S28x128 .bf16) (xs1 : Vec F S3584x128 .f32)

theorem xs_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs1).2.2.1 = xsoPieces arg2 harg2 arg12 x1 := by sl_kernel_rfl

theorem xq_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs1).2.1 = xqPieces arg2 harg2 x1 := by sl_kernel_rfl

theorem ro_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs1).1 = roPieces arg2 harg2 arg3 harg3 arg4 harg4 arg5 harg5 arg8 arg12 x1 x2 x3 x4 := by sl_kernel_rfl

end

end Cert.KernelIdeal.Blocks

end
-- ==== Proof.KernelArrays.lean ====
/- The kernel's three claimed arrays after the run, entry by entry, as formulas of the arrays the region finds. Step `t`
   writes back rows `256 t` to `256 t + 255`. -/
module

public import proofs.«01_k».proof.Proof.KernelValue
public import proofs.«01_k».proof.Proof.Pieces
public import proofs.«01_k».proof.Proof.Gen.KernelIdeal.Value

@[expose] public section

set_option maxRecDepth 16384

noncomputable section

namespace Cert.KernelIdeal.Arrays

open Cert.KernelIdeal Cert.KernelIdeal.Gen Cert.KernelIdeal.Blocks Idealize.ShloMosaic Idealize.ShloMosaic.TcCoe Idealize.SL.Sem Idealize.ShloMosaic.ValueIdx Cert.Quant

variable (m : (ℓ : Loc nD τ sig) → Buf (Elt Ideal) ℓ) (c : Dev nD)

/-! ### What a step writes back -/

theorem flushed_ro (t : Fin cfg0.N) (y : S256x3584.Idx) : (dats m 0 c).flushed 6 t y
    = sumOf (iblk m c 1 t) (iblk m c 2 t) (iblk m c 3 t) (iblk m c 4 t) (y 0 : Fin 256) (y 1 : Fin 3584) := by
  by_cases h0 : t.val % 6 = 0
  · rw [Value.flushed6_A m c t h0]
    unfold out0_A_6
    rw [View.read_writes_junk_eq_canon, ro_A]
    exact roPieces_apply _ _ _ _ _ _ _ _ _ _ _ _ _ _ y
  · rw [Value.flushed6_B m c t h0]
    unfold out0_B_6
    rw [View.read_writes_junk_eq_canon, ro_B]
    exact roPieces_apply _ _ _ _ _ _ _ _ _ _ _ _ _ _ y

theorem flushed_xq (t : Fin cfg0.N) (y : S256x4096.Idx) : (dats m 0 c).flushed 7 t y
    = codeOf (iblk m c 1 t) (y 0 : Fin 256) (y 1 : Fin 4096) := by
  by_cases h0 : t.val % 6 = 0
  · rw [Value.flushed7_A m c t h0]
    unfold out0_A_7
    rw [View.read_writes_junk_eq_canon, xq_A]
    exact xqPieces_apply _ _ _ y
  · rw [Value.flushed7_B m c t h0]
    unfold out0_B_7
    rw [View.read_writes_junk_eq_canon, xq_B]
    exact xqPieces_apply _ _ _ y

theorem flushed_xs (t : Fin cfg0.N) (y : S1x1x256.Idx) : (dats m 0 c).flushed 8 t y = kScale (rowOf (iblk m c 1 t) (y 2 : Fin 256)) := by
  by_cases h0 : t.val % 6 = 0
  · rw [Value.flushed8_A m c t h0]
    unfold out0_A_8
    rw [View.read_writes_junk_eq_canon, xs_A]
    exact xsoPieces_apply _ _ _ _ y
  · rw [Value.flushed8_B m c t h0]
    unfold out0_B_8
    rw [View.read_writes_junk_eq_canon, xs_B]
    exact xsoPieces_apply _ _ _ _ y

/-! ### Where the blocks lie -/

theorem idx_facts : ∀ t : Fin cfg0.N, win0_1.index t (0 : Fin 2) = t.val ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = t.val ∧ win0_4.index t (1 : Fin 2) = 0 ∧ win0_6.index t (0 : Fin 2) = t.val ∧ win0_6.index t (1 : Fin 2) = 0
    ∧ win0_7.index t (0 : Fin 2) = t.val ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- The activations the region finds, as rows. -/
abbrev X : Vec Ideal S1536x4096 .bf16 := V m c main_v0
/-- The weights. -/
abbrev W : Vec Ideal S4096x3584 .fp8e4m3 := V m c main_arg1
/-- The weight scales, in rows of 128. -/
abbrev WS : Vec Ideal S28x128 .f32 := V m c main_v1
/-- The residual rows. -/
abbrev Res : Vec Ideal S1536x3584 .bf16 := V m c main_v2

theorem iblk1_apply (t : Fin cfg0.N) (z : S256x4096.Idx) (R : Fin 1536) (C : Fin 4096) (hR : R.val = 256 * t.val + (z 0).val) (hC : C = z 1) :
    iblk m c 1 t z = X m c (ix2 R C) := by
  have h := idx_facts t
  show X m c (((cfg0.win 1).blk t).view.emb z) = _
  refine congrArg (X m c) ?_
  funext a; apply Fin.ext
  match a with
  | ⟨0, _⟩ => show win0_1.index t (0 : Fin 2) * 256 + 1 * (z 0).val = R.val; omega
  | ⟨1, _⟩ => show win0_1.index t (1 : Fin 2) * 4096 + 1 * (z 1).val = C.val; subst hC; omega

theorem iblk2_eq (t : Fin cfg0.N) : (iblk m c 2 t : Vec Ideal S4096x3584 .fp8e4m3) = W m c := by
  have h := idx_facts t
  funext z
  show W m c (((cfg0.win 2).blk t).view.emb z) = _
  refine congrArg (W m c) ?_
  funext a; apply Fin.ext
  match a with
  | ⟨0, _⟩ => show win0_2.index t (0 : Fin 2) * 4096 + 1 * (z 0).val = (z 0).val; omega
  | ⟨1, _⟩ => show win0_2.index t (1 : Fin 2) * 3584 + 1 * (z 1).val = (z 1).val; omega

theorem iblk3_eq (t : Fin cfg0.N) : (iblk m c 3 t : Vec Ideal S28x128 .f32) = WS m c := by
  have h := idx_facts t
  funext z
  show WS m c (((cfg0.win 3).blk t).view.emb z) = _
  refine congrArg (WS m c) ?_
  funext a; apply Fin.ext
  match a with
  | ⟨0, _⟩ => show win0_3.index t (0 : Fin 2) * 28 + 1 * (z 0).val = (z 0).val; omega
  | ⟨1, _⟩ => show win0_3.index t (1 : Fin 2) * 128 + 1 * (z 1).val = (z 1).val; omega

theorem iblk4_apply (t : Fin cfg0.N) (z : S256x3584.Idx) (R : Fin 1536) (C : Fin 3584) (hR : R.val = 256 * t.val + (z 0).val) (hC : C = z 1) :
    iblk m c 4 t z = Res m c (ix2 R C) := by
  have h := idx_facts t
  show Res m c (((cfg0.win 4).blk t).view.emb z) = _
  refine congrArg (Res m c) ?_
  funext a; apply Fin.ext
  match a with
  | ⟨0, _⟩ => show win0_4.index t (0 : Fin 2) * 256 + 1 * (z 0).val = R.val; omega
  | ⟨1, _⟩ => show win0_4.index t (1 : Fin 2) * 3584 + 1 * (z 1).val = C.val; subst hC; omega

/-! ### The arrays after the run -/

/-- The scaled maximum of row `R` of the activations. -/
def rowS' (R : Fin 1536) : EReal := rowS fun k : Fin 4096 => (X m c (ix2 R k) : EReal)

/-- The code of entry `(R, k)`. -/
def code (R : Fin 1536) (k : Fin 4096) : EReal := clip ((X m c (ix2 R k) : EReal) * kInv (rowS' m c R))

theorem rowOf_block (t : Fin cfg0.N) (r : Fin 256) (R : Fin 1536) (hR : R.val = 256 * t.val + r.val) :
    rowOf (iblk m c 1 t) r = rowS' m c R := by
  unfold rowOf rowS'
  refine congrArg rowS (funext fun k => ?_)
  exact iblk1_apply m c t (ix2 r k) R k hR rfl

theorem codeOf_block (t : Fin cfg0.N) (r : Fin 256) (k : Fin 4096) (R : Fin 1536) (hR : R.val = 256 * t.val + r.val) :
    codeOf (iblk m c 1 t) r k = code m c R k := by
  unfold codeOf code
  rw [rowOf_block m c t r R hR]
  exact congrArg (fun x : EReal => clip (x * kInv (rowS' m c R))) (iblk1_apply m c t (ix2 r k) R k hR rfl)

theorem ro_apply (y : S1536x3584.Idx) : (dats m 0 c).arrAt 6 cfg0.N y
    = ((∑ k : Fin 4096, code m c (y 0 : Fin 1536) k * (W m c (ix2 k (y 1 : Fin 3584)) : EReal)) * kScale (rowS' m c (y 0 : Fin 1536)))
        * (WS m c (ix2 (⟨(y 1).val / 128, by have : (y 1).val < 3584 := (y 1).isLt; omega⟩ : Fin 28) (⟨(y 1).val % 128, Nat.mod_lt _ (by decide)⟩ : Fin 128)) : EReal)
      + (Res m c (ix2 (y 0 : Fin 1536) (y 1 : Fin 3584)) : EReal) := by
  have hy : (y 0).val < 1536 := (y 0).isLt
  let t : Fin cfg0.N := ⟨(y 0).val / 256, show (y 0).val / 256 < 6 by omega⟩
  have ht : t.val = (y 0).val / 256 := rfl
  let z : S256x3584.Idx := ix2 (⟨(y 0).val % 256, Nat.mod_lt _ (by decide)⟩ : Fin 256) (y 1 : Fin 3584)
  have e : ((cfg0.win 6).blk t).view.emb z = y := by
    have h := idx_facts t
    funext a; apply Fin.ext
    match a with
    | ⟨0, _⟩ => show win0_6.index t (0 : Fin 2) * 256 + 1 * ((y 0).val % 256) = (y 0).val; omega
    | ⟨1, _⟩ => show win0_6.index t (1 : Fin 2) * 3584 + 1 * (y 1).val = (y 1).val; omega
  have b := congrFun (Value.blocks6 m c t (flush0_6 t)) z
  have b' : (dats m 0 c).arrAt 6 cfg0.N (((cfg0.win 6).blk t).view.emb z) = _ := b
  rw [e] at b'
  refine b'.trans ((flushed_ro m c t z).trans ?_)
  have hR : (y 0 : Fin 1536).val = 256 * t.val + (z 0 : Fin 256).val := by
    show (y 0).val = 256 * ((y 0).val / 256) + (y 0).val % 256; omega
  unfold sumOf
  rw [iblk2_eq, iblk3_eq, rowOf_block m c t (z 0) (y 0) hR]
  refine congrArg₂ (· + ·) (congrArg₂ (· * ·) (congrArg₂ (· * ·) ?_ rfl) rfl) ?_
  · exact Finset.sum_congr rfl fun k _ => congrArg₂ (· * ·) (codeOf_block m c t (z 0) k (y 0) hR) rfl
  · exact iblk4_apply m c t (ix2 (z 0 : Fin 256) (z 1 : Fin 3584)) (y 0) (y 1) hR rfl

theorem xq_apply (y : S1536x4096.Idx) : (dats m 0 c).arrAt 7 cfg0.N y = code m c (y 0 : Fin 1536) (y 1 : Fin 4096) := by
  have hy : (y 0).val < 1536 := (y 0).isLt
  let t : Fin cfg0.N := ⟨(y 0).val / 256, show (y 0).val / 256 < 6 by omega⟩
  have ht : t.val = (y 0).val / 256 := rfl
  let z : S256x4096.Idx := ix2 (⟨(y 0).val % 256, Nat.mod_lt _ (by decide)⟩ : Fin 256) (y 1 : Fin 4096)
  have e : ((cfg0.win 7).blk t).view.emb z = y := by
    have h := idx_facts t
    funext a; apply Fin.ext
    match a with
    | ⟨0, _⟩ => show win0_7.index t (0 : Fin 2) * 256 + 1 * ((y 0).val % 256) = (y 0).val; omega
    | ⟨1, _⟩ => show win0_7.index t (1 : Fin 2) * 4096 + 1 * (y 1).val = (y 1).val; omega
  have b := congrFun (Value.blocks7 m c t (flush0_7 t)) z
  have b' : (dats m 0 c).arrAt 7 cfg0.N (((cfg0.win 7).blk t).view.emb z) = _ := b
  rw [e] at b'
  refine b'.trans ((flushed_xq m c t z).trans ?_)
  exact codeOf_block m c t (z 0) (y 1) (y 0) (by show (y 0).val = 256 * ((y 0).val / 256) + (y 0).val % 256; omega)

theorem xs_apply (y : S6x1x256.Idx) (R : Fin 1536) (hR : R.val = 256 * (y 0).val + (y 2).val) :
    (dats m 0 c).arrAt 8 cfg0.N y = kScale (rowS' m c R) := by
  let t : Fin cfg0.N := (y 0 : Fin 6)
  have ht : t.val = (y 0).val := rfl
  let z : S1x1x256.Idx := ix3 (0 : Fin 1) (0 : Fin 1) (y 2 : Fin 256)
  have h1 : (y 1).val = 0 := by have : (y 1).val < 1 := (y 1).isLt; omega
  have e : ((cfg0.win 8).blk t).view.emb z = y := by
    have h := idx_facts t
    funext a; apply Fin.ext
    match a with
    | ⟨0, _⟩ => show win0_8.index t (0 : Fin 3) * 1 + 1 * 0 = (y 0).val; omega
    | ⟨1, _⟩ => show win0_8.index t (1 : Fin 3) * 1 + 1 * 0 = (y 1).val; omega
    | ⟨2, _⟩ => show win0_8.index t (2 : Fin 3) * 256 + 1 * (y 2).val = (y 2).val; omega
  have b := congrFun (Value.blocks8 m c t (flush0_8 t)) z
  have b' : (dats m 0 c).arrAt 8 cfg0.N (((cfg0.win 8).blk t).view.emb z) = _ := b
  rw [e] at b'
  refine b'.trans ((flushed_xs m c t z).trans ?_)
  exact congrArg kScale (rowOf_block m c t (z 2) R hR)

end Cert.KernelIdeal.Arrays

end
-- ==== Proof.RefValue.lean ====
/- The values of the reference's stores over the extended reals: the scale of a row, the code of an entry and the residual
   sum, each as one formula of the reference's input arrays. -/
module

public import proofs.«01_k».proof.Proof.KernelValue
public import proofs.«01_k».proof.Proof.Gen.ReferenceIdeal.Frame
public import Idealize.ShloMosaic.Lib.Pipeline.ValueKit.Basic

@[expose] public section

set_option maxRecDepth 16384

noncomputable section

namespace Cert.ReferenceIdeal.Values

open Cert.ReferenceIdeal Cert.ReferenceIdeal.Gen Idealize.ShloMosaic Idealize.ShloMosaic.TcCoe Idealize.SL.Sem Idealize.ShloMosaic.ValueIdx Cert.Quant

variable (x0 : Vec Ideal S1536x4096 .bf16) (x1 : Vec Ideal S4096x3584 .fp8e4m3) (x2 : Vec Ideal S1x3584 .f32) (x3 : Vec Ideal S1536x3584 .bf16)

/-- The scaled maximum of row `r`. -/
def rowOf (r : Fin 1536) : EReal := rowS fun c : Fin 4096 => (x0 (ix2 r c) : EReal)

/-- The code of an entry. -/
def codeOf (r : Fin 1536) (c : Fin 4096) : EReal := clip ((x0 (ix2 r c) : EReal) * Ideal.exp2 (0 - refExp (rowOf x0 r)))

/-- An entry of the residual output. -/
def sumOf (r : Fin 1536) (c : Fin 3584) : EReal :=
  ((∑ k : Fin 4096, codeOf x0 r k * (x1 (ix2 k c) : EReal)) * Ideal.exp2 (refExp (rowOf x0 r))) * (x2 (ix2 (0 : Fin 1) c) : EReal)
    + (x3 (ix2 r c) : EReal)

theorem zero_bits : FloatOps.ofBits (F := Ideal) .f32 0x00000000#32 = (0 : EReal) := by
  show Ideal.ofBits .f32 0x00000000#32 = 0
  unfold Ideal.ofBits
  simp [Ideal.ieee]

theorem pay2_apply (j : S1536x4096.Idx) : (k0_pay2 x0 : FVec Ideal S1536x4096 .f32) j = x0 j := by
  unfold k0_pay2
  rw [shapeCast_self]; rfl

/-- A vector with one column, broadcast over the columns, at an index. -/
theorem col_apply {n : ℕ} (v : FVec Ideal S1536 .f32) (h : Shape.Broadcasts S1536x1 ⟨2, ![1536, n]⟩) (hn : n ≠ 1) (j : (⟨2, ![1536, n]⟩ : Shape).Idx) :
    broadcastTo ⟨2, ![1536, n]⟩ (shapeCast S1536x1 v shapeCasts_S1536_S1536x1 : FVec Ideal S1536x1 .f32) h j = v (ix1 (j 0 : Fin 1536)) := by
  refine (broadcastTo_apply _ _ j (ix2 (j 0 : Fin 1536) (0 : Fin 1)) (fun a => by match a with | ⟨0, _⟩ => rfl | ⟨1, _⟩ => rfl)).trans ?_
  exact shapeCast_apply _ _ (ix2 (j 0 : Fin 1536) (0 : Fin 1)) (ix1 (j 0 : Fin 1536)) (by
    rw [Shape.rowMajor_val_two, Shape.rowMajor_val_one]; show (j 0).val = (j 0).val * 1 + 0; omega)

/-- The row scale before its exponent is taken. -/
def pre : FVec Ideal S1536 .f32 :=
  mulf (multiReduction .maximumf [1] S1536 (absf (k0_pay2 x0)) 0xFF800000#32 reduces_S1536x4096_S1536 (.inl rfl) rfl)
    (broadcast S1536 (Scalar.ofBits .f32 0x3B124925#32))

theorem pre_apply (r : Fin 1536) : pre x0 (ix1 r) = rowOf x0 r := by
  unfold pre rowOf rowS rowMax
  refine (mulf_apply _ _ _).trans ?_
  refine congrArg₂ (· * ·) ?_ rfl
  refine (Ideal.multiReduction_maximumf_single _ _ reduces_S1536x4096_S1536 _ _ _).trans ?_
  refine (fold_max_eq _).trans ?_
  refine Finset.sup_congr rfl fun k _ => ?_
  have e : reduces_S1536x4096_S1536.lift (ix1 r) k = ix2 r k := by
    funext a
    match a with | ⟨0, _⟩ => rfl | ⟨1, _⟩ => rfl
  exact congrArg (fun t : EReal => max t (-t)) ((congrArg (k0_pay2 x0 : FVec Ideal S1536x4096 .f32) e).trans (pay2_apply x0 (ix2 r k)))

/-- The 254 powers of two the reference compares with. -/
def powers : FVec Ideal S1x254 .f32 :=
  exp2 (sitofp .f32 (subi (iota .tc S1x254 32 [1] iota_S1x254_d1_w32) (broadcast S1x254 126#32)))

theorem powers_apply (k : Fin 254) : powers (ix2 (0 : Fin 1) k)
    = FloatOps.exp2 (F := Ideal) (φ := .f32) (FloatOps.sitofp (F := Ideal) .f32 (IntOp.subi (BitVec.ofNat 32 k.val) 126#32)) :=
  congrArg (fun n => FloatOps.exp2 (F := Ideal) (φ := .f32) (FloatOps.sitofp (F := Ideal) .f32 (IntOp.subi n 126#32)))
    (iota_single_apply .tc S1x254 32 1 iota_S1x254_d1_w32 (ix2 (0 : Fin 1) k))

/-- How many of them each row reaches. -/
def counts : IVec S1536 32 :=
  multiReductionI .add [1] S1536
    (extui 32 (cmpf .oge (broadcastTo S1536x254 (shapeCast S1536x1 (pre x0) shapeCasts_S1536_S1536x1 : FVec Ideal S1536x1 .f32) broadcasts_S1536x1_S1536x254)
      (broadcastTo S1536x254 powers broadcasts_S1x254_S1536x254)) natLt_1_32) 0#32 reduces_S1536x254_S1536 rfl

theorem ge_at (a b : FVec Ideal S1536x254 .f32) (i : S1536x254.Idx) :
    (extui 32 (cmpf .oge a b) natLt_1_32 : IVec S1536x254 32) i = (FloatOps.cmpf (F := Ideal) (φ := .f32) .oge (a i) (b i)).setWidth 32 := rfl

theorem counts_apply (r : Fin 1536) : counts x0 (ix1 r) = countOf (rowOf x0 r) := by
  unfold counts countOf
  refine (multiReductionI_eq_fold _ _ _ _ _ _).trans ?_
  refine (reduces_S1536x254_S1536.fold_filter_drop_single IntOp.addi 0#32 _ (ix1 r)).trans ?_
  refine Finset.fold_congr fun k _ => ?_
  have e : reduces_S1536x254_S1536.lift (ix1 r) k = ix2 r k := by
    funext a
    match a with | ⟨0, _⟩ => rfl | ⟨1, _⟩ => rfl
  have h1 : broadcastTo S1536x254 (shapeCast S1536x1 (pre x0) shapeCasts_S1536_S1536x1 : FVec Ideal S1536x1 .f32) broadcasts_S1536x1_S1536x254
      (reduces_S1536x254_S1536.lift (ix1 r) k) = rowOf x0 r := by
    rw [e]; exact (col_apply (n := 254) (pre x0) _ (by decide) (ix2 r k)).trans (pre_apply x0 r)
  have h2 : broadcastTo S1536x254 powers broadcasts_S1x254_S1536x254 (reduces_S1536x254_S1536.lift (ix1 r) k)
      = FloatOps.exp2 (F := Ideal) (φ := .f32) (FloatOps.sitofp (F := Ideal) .f32 (IntOp.subi (BitVec.ofNat 32 k.val) 126#32)) := by
    rw [e]
    exact (broadcastTo_apply _ _ _ _ (fun a => by match a with | ⟨0, _⟩ => rfl | ⟨1, _⟩ => rfl)).trans (powers_apply k)
  refine (ge_at _ _ (reduces_S1536x254_S1536.lift (ix1 r) k)).trans ?_
  exact congrArg (BitVec.setWidth 32) (congrArg₂ (FloatOps.cmpf (F := Ideal) (φ := .f32) .oge) h1 h2)

theorem pay3_eq : (k0_pay3 x0 : FVec Ideal S1536 .f32)
    = sitofp .f32 (select (cmpf .olt (pre x0) (broadcast S1536 (Scalar.ofBits .f32 0x00800000#32))) (broadcast S1536 0#32)
        (subi (counts x0) (broadcast S1536 126#32))) := by
  unfold k0_pay3 counts pre powers
  rfl

theorem exp_at (s : FVec Ideal S1536 .f32) (n : IVec S1536 32) (j : S1536.Idx) :
    (sitofp .f32 (select (cmpf .olt s (broadcast S1536 (Scalar.ofBits .f32 0x00800000#32))) (broadcast S1536 0#32)
        (subi n (broadcast S1536 126#32))) : FVec Ideal S1536 .f32) j
      = FloatOps.sitofp (F := Ideal) .f32 (Scalar.select (FloatOps.cmpf (F := Ideal) (φ := .f32) .olt (s j) (FloatOps.ofBits (F := Ideal) .f32 0x00800000#32))
          0#32 (IntOp.subi (n j) 126#32)) := rfl

theorem pay3_apply (r : Fin 1536) : (k0_pay3 x0 : FVec Ideal S1536 .f32) (ix1 r) = refExp (rowOf x0 r) := by
  refine (congrFun (pay3_eq x0) (ix1 r)).trans ?_
  refine (exp_at (pre x0) (counts x0) (ix1 r)).trans ?_
  exact congrArg₂ (fun (s : EReal) n => FloatOps.sitofp (F := Ideal) .f32
    (Scalar.select (FloatOps.cmpf (F := Ideal) (φ := .f32) .olt s (FloatOps.ofBits (F := Ideal) .f32 0x00800000#32)) 0#32 (IntOp.subi n 126#32)))
    (pre_apply x0 r) (counts_apply x0 r)

theorem pay4_apply (r : Fin 1536) : (k0_pay4 x0 : FVec Ideal S1536 .f32) (ix1 r) = Ideal.exp2 (refExp (rowOf x0 r)) := by
  show Ideal.exp2 ((k0_pay3 x0 : FVec Ideal S1536 .f32) (ix1 r)) = _
  rw [pay3_apply]

theorem pay5_apply (j : S1536x4096.Idx) : (k0_pay5 x0 : FVec Ideal S1536x4096 .fp8e4m3) j = codeOf x0 (j 0 : Fin 1536) (j 1 : Fin 4096) := by
  show clip (((k0_pay2 x0 : FVec Ideal S1536x4096 .f32) j : EReal)
    * broadcastTo S1536x4096 (shapeCast S1536x1 (exp2 (subf (broadcast S1536 (Scalar.ofBits .f32 0x00000000#32)) (k0_pay3 x0))) shapeCasts_S1536_S1536x1 : FVec Ideal S1536x1 .f32)
        broadcasts_S1536x1_S1536x4096 j) = _
  unfold codeOf
  refine congrArg clip (congrArg₂ (· * ·) ?_ ?_)
  · rw [pay2_apply]
    refine congrArg x0 ?_
    funext a
    match a with | ⟨0, _⟩ => rfl | ⟨1, _⟩ => rfl
  · refine (col_apply (n := 4096) _ _ (by decide) j).trans ?_
    show Ideal.exp2 (FloatOps.ofBits (F := Ideal) .f32 0x00000000#32 - (k0_pay3 x0 : FVec Ideal S1536 .f32) (ix1 (j 0 : Fin 1536)) : EReal) = _
    exact congrArg₂ (fun a b : EReal => Ideal.exp2 (a - b)) zero_bits (pay3_apply x0 (j 0 : Fin 1536))

theorem pay6_apply (j : S6x1x256.Idx) (r : Fin 1536) (hr : r.val = 256 * (j 0).val + (j 2).val) :
    (k0_pay6 x0 : FVec Ideal S6x1x256 .f32) j = Ideal.exp2 (refExp (rowOf x0 r)) := by
  refine (shapeCast_apply _ shapeCasts_S1536_S6x1x256 j (ix1 r) ?_).trans (pay4_apply x0 r)
  have h1 : (j 1).val = 0 := by have : (j 1).val < 1 := (j 1).isLt; omega
  rw [Shape.rowMajor_val_one, Shape.rowMajor_val_three]
  show r.val = ((j 0).val * 1 + (j 1).val) * 256 + (j 2).val
  omega

theorem pay1_apply (j : S1536x3584.Idx) :
    (k0_pay1 (k0_pay4 x0) (k0_pay5 x0) x1 x2 x3 : FVec Ideal S1536x3584 .bf16) j = sumOf x0 x1 x2 x3 (j 0 : Fin 1536) (j 1 : Fin 3584) := by
  unfold k0_pay1 sumOf
  rw [truncf_apply, addf_apply, mulf_apply, mulf_apply, extf_apply]
  refine congrArg₂ (· + ·) (congrArg₂ (· * ·) (congrArg₂ (· * ·) ?_ ?_) ?_) ?_
  · refine (Ideal.matmul_constant_zero_apply (φ₂ := .fp8e4m3) dot_S1536x4096_S4096x3584_S1536x3584_1_0_0_1_n_n none (k0_pay5 x0) _ j).trans ?_
    refine (Equiv.sum_comp (contrEquiv1 dot_S1536x4096_S4096x3584_S1536x3584_1_0_0_1_n_n 4096 rfl rfl).symm _).symm.trans ?_
    refine Finset.sum_congr rfl fun k _ => ?_
    refine congrArg₂ (· * ·) ?_ ?_
    · exact pay5_apply x0 _
    · refine congrArg x1 ?_
      funext a
      match a with | ⟨0, _⟩ => rfl | ⟨1, _⟩ => rfl
  · exact (col_apply (n := 3584) _ _ (by decide) j).trans (pay4_apply x0 _)
  · refine (broadcastTo_apply _ _ j (ix2 (0 : Fin 1) (j 1 : Fin 3584)) (fun a => by match a with | ⟨0, _⟩ => rfl | ⟨1, _⟩ => rfl)).trans ?_
    exact congrFun (shapeCast_self _ _) _
  · refine (congrFun (shapeCast_self _ _) _).trans ?_
    refine congrArg x3 ?_
    funext a
    match a with | ⟨0, _⟩ => rfl | ⟨1, _⟩ => rfl

theorem out4_apply (y : S1536x3584.Idx) : out0_4 x0 x1 x2 x3 y = sumOf x0 x1 x2 x3 (y 0 : Fin 1536) (y 1 : Fin 3584) := by
  unfold out0_4
  rw [View.ld_unit_lit inb_S1536x4096_S1536x4096_0_0 x0 (by decide), View.ld_unit_lit inb_S4096x3584_S4096x3584_0_0 x1 (by decide),
    View.ld_unit_lit inb_S1x3584_S1x3584_0_0 x2 (by decide), View.ld_unit_lit inb_S1536x3584_S1536x3584_0_0 x3 (by decide)]
  refine (congrFun (View.canon_cons_unit_lit inb_S1536x3584_S1536x3584_0_0 _ [] (by decide)) y).trans ?_
  exact pay1_apply x0 x1 x2 x3 y

theorem out5_apply (y : S1536x4096.Idx) : out0_5 x0 x1 x2 x3 y = codeOf x0 (y 0 : Fin 1536) (y 1 : Fin 4096) := by
  unfold out0_5
  rw [View.ld_unit_lit inb_S1536x4096_S1536x4096_0_0 x0 (by decide)]
  refine (congrFun (View.canon_cons_unit_lit inb_S1536x4096_S1536x4096_0_0 _ [] (by decide)) y).trans ?_
  exact pay5_apply x0 y

theorem out6_apply (y : S6x1x256.Idx) (r : Fin 1536) (hr : r.val = 256 * (y 0).val + (y 2).val) :
    out0_6 x0 x1 x2 x3 y = Ideal.exp2 (refExp (rowOf x0 r)) := by
  unfold out0_6
  rw [View.ld_unit_lit inb_S1536x4096_S1536x4096_0_0 x0 (by decide)]
  refine (congrFun (View.canon_cons_unit_lit inb_S6x1x256_S6x1x256_0_0_0 _ [] (by decide)) y).trans ?_
  exact pay6_apply x0 y r hr

end Cert.ReferenceIdeal.Values

end
-- ==== Proof.RefArrays.lean ====
/- The reference's three arrays after the run, entry by entry, as formulas of the arrays its region finds. Its one step
   has whole arrays as blocks. -/
module

public import proofs.«01_k».proof.Proof.RefValue
public import proofs.«01_k».proof.Proof.Gen.ReferenceIdeal.Value

@[expose] public section

set_option maxRecDepth 16384

noncomputable section

namespace Cert.ReferenceIdeal.Arrays

open Cert.ReferenceIdeal Cert.ReferenceIdeal.Gen Cert.ReferenceIdeal.Values Idealize.ShloMosaic Idealize.ShloMosaic.TcCoe Idealize.SL.Sem Idealize.ShloMosaic.ValueIdx Cert.Quant

variable (m : (ℓ : Loc nD τ sig) → Buf (Elt Ideal) ℓ) (c : Dev nD)

/-- The one point of the grid of no axis. -/
abbrev t0 : Fin cfg0.N := ⟨0, by decide⟩

theorem idx_facts : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0 :=
  (by decide +kernel : ∀ t : Fin grid0.N, _)

/-- The activations the region finds, as rows. -/
abbrev X : Vec Ideal S1536x4096 .bf16 := V m c main_v0
/-- The weights. -/
abbrev W : Vec Ideal S4096x3584 .fp8e4m3 := V m c main_arg1
/-- The weight scales, as one row. -/
abbrev WS : Vec Ideal S1x3584 .f32 := V m c main_v1
/-- The residual rows. -/
abbrev Res : Vec Ideal S1536x3584 .bf16 := V m c main_v2

theorem iblk0_eq : (iblk m c 0 t0 : Vec Ideal S1536x4096 .bf16) = X m c := by
  have h := idx_facts t0
  funext z
  show X m c (((cfg0.win 0).blk t0).view.emb z) = _
  refine congrArg (X m c) ?_
  funext a; apply Fin.ext
  match a with
  | ⟨0, _⟩ => show win0_0.index t0 (0 : Fin 2) * 1536 + 1 * (z 0).val = (z 0).val; omega
  | ⟨1, _⟩ => show win0_0.index t0 (1 : Fin 2) * 4096 + 1 * (z 1).val = (z 1).val; omega

theorem iblk1_eq : (iblk m c 1 t0 : Vec Ideal S4096x3584 .fp8e4m3) = W m c := by
  have h := idx_facts t0
  funext z
  show W m c (((cfg0.win 1).blk t0).view.emb z) = _
  refine congrArg (W m c) ?_
  funext a; apply Fin.ext
  match a with
  | ⟨0, _⟩ => show win0_1.index t0 (0 : Fin 2) * 4096 + 1 * (z 0).val = (z 0).val; omega
  | ⟨1, _⟩ => show win0_1.index t0 (1 : Fin 2) * 3584 + 1 * (z 1).val = (z 1).val; omega

theorem iblk2_eq : (iblk m c 2 t0 : Vec Ideal S1x3584 .f32) = WS m c := by
  have h := idx_facts t0
  funext z
  show WS m c (((cfg0.win 2).blk t0).view.emb z) = _
  refine congrArg (WS m c) ?_
  funext a; apply Fin.ext
  match a with
  | ⟨0, _⟩ => show win0_2.index t0 (0 : Fin 2) * 1 + 1 * (z 0).val = (z 0).val; omega
  | ⟨1, _⟩ => show win0_2.index t0 (1 : Fin 2) * 3584 + 1 * (z 1).val = (z 1).val; omega

theorem iblk3_eq : (iblk m c 3 t0 : Vec Ideal S1536x3584 .bf16) = Res m c := by
  have h := idx_facts t0
  funext z
  show Res m c (((cfg0.win 3).blk t0).view.emb z) = _
  refine congrArg (Res m c) ?_
  funext a; apply Fin.ext
  match a with
  | ⟨0, _⟩ => show win0_3.index t0 (0 : Fin 2) * 1536 + 1 * (z 0).val = (z 0).val; omega
  | ⟨1, _⟩ => show win0_3.index t0 (1 : Fin 2) * 3584 + 1 * (z 1).val = (z 1).val; omega

theorem ro_apply (y : S1536x3584.Idx) : (dats m 0 c).arrAt 4 cfg0.N y
    = sumOf (X m c) (W m c) (WS m c) (Res m c) (y 0 : Fin 1536) (y 1 : Fin 3584) := by
  have e : ((cfg0.win 4).blk t0).view.emb y = y := by
    have h := idx_facts t0
    funext a; apply Fin.ext
    match a with
    | ⟨0, _⟩ => show win0_4.index t0 (0 : Fin 2) * 1536 + 1 * (y 0).val = (y 0).val; omega
    | ⟨1, _⟩ => show win0_4.index t0 (1 : Fin 2) * 3584 + 1 * (y 1).val = (y 1).val; omega
  have b := congrFun (Value.blocks4 m c t0 (flush0_4 t0)) y
  rw [Value.flushed4, iblk0_eq, iblk1_eq, iblk2_eq, iblk3_eq] at b
  have b' : (dats m 0 c).arrAt 4 cfg0.N (((cfg0.win 4).blk t0).view.emb y) = _ := b
  rw [e] at b'
  exact b'.trans (out4_apply _ _ _ _ y)

theorem xq_apply (y : S1536x4096.Idx) : (dats m 0 c).arrAt 5 cfg0.N y = codeOf (X m c) (y 0 : Fin 1536) (y 1 : Fin 4096) := by
  have e : ((cfg0.win 5).blk t0).view.emb y = y := by
    have h := idx_facts t0
    funext a; apply Fin.ext
    match a with
    | ⟨0, _⟩ => show win0_5.index t0 (0 : Fin 2) * 1536 + 1 * (y 0).val = (y 0).val; omega
    | ⟨1, _⟩ => show win0_5.index t0 (1 : Fin 2) * 4096 + 1 * (y 1).val = (y 1).val; omega
  have b := congrFun (Value.blocks5 m c t0 (flush0_5 t0)) y
  rw [Value.flushed5, iblk0_eq, iblk1_eq, iblk2_eq, iblk3_eq] at b
  have b' : (dats m 0 c).arrAt 5 cfg0.N (((cfg0.win 5).blk t0).view.emb y) = _ := b
  rw [e] at b'
  exact b'.trans (out5_apply _ _ _ _ y)

theorem xs_apply (y : S6x1x256.Idx) (R : Fin 1536) (hR : R.val = 256 * (y 0).val + (y 2).val) :
    (dats m 0 c).arrAt 6 cfg0.N y = Ideal.exp2 (refExp (rowOf (X m c) R)) := by
  have e : ((cfg0.win 6).blk t0).view.emb y = y := by
    have h := idx_facts t0
    funext a; apply Fin.ext
    match a with
    | ⟨0, _⟩ => show win0_6.index t0 (0 : Fin 3) * 6 + 1 * (y 0).val = (y 0).val; omega
    | ⟨1, _⟩ => show win0_6.index t0 (1 : Fin 3) * 1 + 1 * (y 1).val = (y 1).val; omega
    | ⟨2, _⟩ => show win0_6.index t0 (2 : Fin 3) * 256 + 1 * (y 2).val = (y 2).val; omega
  have b := congrFun (Value.blocks6 m c t0 (flush0_6 t0)) y
  rw [Value.flushed6, iblk0_eq, iblk1_eq, iblk2_eq, iblk3_eq] at b
  have b' : (dats m 0 c).arrAt 6 cfg0.N (((cfg0.win 6).blk t0).view.emb y) = _ := b
  rw [e] at b'
  exact b'.trans (out6_apply _ _ _ _ y R hR)

end Cert.ReferenceIdeal.Arrays

end
-- ==== Proof.Join.lean ====
/- The kernel's arrays are the reference's, when the activations are finite. The host's reshapes are read at an index on
   both sides; a finite row has a scaled maximum below `2 ^ 126`, where the two ways to find the scale agree. -/
module

public import proofs.«01_k».proof.Proof.KernelArrays
public import proofs.«01_k».proof.Proof.RefArrays
public import Idealize.ShloMosaic.Lib.Pipeline.ValueKit.Point

@[expose] public section

set_option maxRecDepth 16384

noncomputable section

namespace Cert.Join

open Idealize.ShloMosaic Idealize.ShloMosaic.TcCoe Idealize.SL.Sem Cert.Quant

/-! ### The reshapes before the call -/

section
open Cert.KernelIdeal Cert.KernelIdeal.Gen
variable (m : (ℓ : Loc nD τ sig) → Buf (Elt Ideal) ℓ) (c : Dev nD)

theorem kX : KernelIdeal.Arrays.X m c
    = shapeCast S1536x4096 (m ((c : Thread nD τ).loc main_arg0) : Vec Ideal S3x512x4096 .bf16) shapeCasts_S3x512x4096_S1536x4096 := by
  show StableHlo.after hostOps0 _ (Proc.devRef .tc main_v0) = _
  after_results
  rfl

theorem kWS : KernelIdeal.Arrays.WS m c
    = shapeCast S28x128 (m ((c : Thread nD τ).loc main_arg2) : Vec Ideal S3584 .f32) shapeCasts_S3584_S28x128 := by
  show StableHlo.after hostOps0 _ (Proc.devRef .tc main_v1) = _
  after_results
  rfl

theorem kRes : KernelIdeal.Arrays.Res m c
    = shapeCast S1536x3584 (m ((c : Thread nD τ).loc main_arg3) : Vec Ideal S3x512x3584 .bf16) shapeCasts_S3x512x3584_S1536x3584 := by
  show StableHlo.after hostOps0 _ (Proc.devRef .tc main_v2) = _
  after_results
  rfl

theorem fold_apply (v : Vec Ideal S3584 .f32) (h : S3584.ShapeCasts S28x128) (n : Fin 3584) (i : Fin 28) (j : Fin 128)
    (hi : i.val = n.val / 128) (hj : j.val = n.val % 128) : shapeCast S28x128 v h (ix2 i j) = v (ix1 n) :=
  shapeCast_apply _ _ _ _ (by
    rw [Shape.rowMajor_val_two, Shape.rowMajor_val_one]; show n.val = i.val * 128 + j.val; omega)

/-- Column `n`'s weight scale sits at row `n / 128`, lane `n % 128`. -/
theorem kWS_apply (n : Fin 3584) (i : Fin 28) (j : Fin 128) (hi : i.val = n.val / 128) (hj : j.val = n.val % 128) :
    KernelIdeal.Arrays.WS m c (ix2 i j) = (m ((c : Thread nD τ).loc main_arg2) : Vec Ideal S3584 .f32) (ix1 n) := by
  rw [kWS]
  exact fold_apply _ _ n i j hi hj

end

section
open Cert.ReferenceIdeal Cert.ReferenceIdeal.Gen
variable (m : (ℓ : Loc nD τ sig) → Buf (Elt Ideal) ℓ) (c : Dev nD)

theorem rX : ReferenceIdeal.Arrays.X m c
    = shapeCast S1536x4096 (m ((c : Thread nD τ).loc main_arg0) : Vec Ideal S3x512x4096 .bf16) shapeCasts_S3x512x4096_S1536x4096 := by
  show StableHlo.after hostOps0 _ (Proc.devRef .tc main_v0) = _
  after_results
  rfl

theorem rWS : ReferenceIdeal.Arrays.WS m c
    = shapeCast S1x3584 (m ((c : Thread nD τ).loc main_arg2) : Vec Ideal S3584 .f32) shapeCasts_S3584_S1x3584 := by
  show StableHlo.after hostOps0 _ (Proc.devRef .tc main_v1) = _
  after_results
  rfl

theorem rRes : ReferenceIdeal.Arrays.Res m c
    = shapeCast S1536x3584 (m ((c : Thread nD τ).loc main_arg3) : Vec Ideal S3x512x3584 .bf16) shapeCasts_S3x512x3584_S1536x3584 := by
  show StableHlo.after hostOps0 _ (Proc.devRef .tc main_v2) = _
  after_results
  rfl

theorem row_apply (v : Vec Ideal S3584 .f32) (h : S3584.ShapeCasts S1x3584) (n : Fin 3584) :
    shapeCast S1x3584 v h (ix2 (0 : Fin 1) n) = v (ix1 n) :=
  shapeCast_apply _ _ _ _ (by
    rw [Shape.rowMajor_val_two, Shape.rowMajor_val_one]; show n.val = 0 * 3584 + n.val; omega)

theorem rWS_apply (n : Fin 3584) :
    ReferenceIdeal.Arrays.WS m c (ix2 (0 : Fin 1) n) = (m ((c : Thread nD τ).loc main_arg2) : Vec Ideal S3584 .f32) (ix1 n) := by
  rw [rWS]
  exact row_apply _ _ n

end

/-! ### A finite row's scaled maximum -/

/-- The absolute value. -/
def mag (a : EReal) : EReal := max a (-a)

/-- A comparison that came out true. -/
theorem le_of_cmpf {a b : EReal} (h : BitVec.ofBool (decide (mag a ≤ b)) = 1#1) : mag a ≤ b := by
  by_contra hn
  rw [decide_eq_false hn] at h
  exact absurd h (by decide)

/-- The largest finite bf16 number. -/
theorem top_bits : FloatOps.ofBits (F := Ideal) .bf16 0x7F7F#16 = (((255 : ℝ) * 2 ^ 120 : ℝ) : EReal) := by
  show Ideal.ofBits .bf16 0x7F7F#16 = _
  unfold Ideal.ofBits
  simp [Ideal.ieee]

/-- The f32 number nearest 1/448. -/
theorem c448_bits : FloatOps.ofBits (F := Ideal) .f32 0x3B124925#32 = (((9586981 : ℝ) / 2 ^ 32 : ℝ) : EReal) := by
  show Ideal.ofBits .f32 0x3B124925#32 = _
  unfold Ideal.ofBits
  simp [Ideal.ieee]
  refine (EReal.coe_mul _ _).symm.trans (congrArg _ ?_)
  norm_num

theorem rowS_lt {n : ℕ} (f : Fin n → EReal) (h : ∀ k, mag (f k) ≤ FloatOps.ofBits (F := Ideal) .bf16 0x7F7F#16) :
    rowS f < fieldVal 253 := by
  have h1 : rowMax f ≤ (((255 : ℝ) * 2 ^ 120 : ℝ) : EReal) := by
    rw [← top_bits]; exact Finset.sup_le fun k _ => h k
  unfold rowS
  rw [c448_bits, fieldVal_eq (by norm_num) (by norm_num)]
  refine lt_of_le_of_lt (mul_le_mul_of_nonneg_right h1 (EReal.coe_nonneg.mpr (by norm_num))) ?_
  rw [← EReal.coe_mul, EReal.coe_lt_coe_iff]
  norm_num

/-! ### The arrays -/

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- Every activation is at most the largest finite bf16 number in absolute value. -/
def Finite : Prop := ∀ i : KernelIdeal.S3x512x4096.Idx,
  mag ((m ((c.tc : Thread KernelIdeal.nD KernelIdeal.τ).loc KernelIdeal.main_arg0) : Vec Ideal KernelIdeal.S3x512x4096 .bf16) i)
    ≤ FloatOps.ofBits (F := Ideal) .bf16 0x7F7F#16

theorem row_lt (hf : Finite m c) (R : Fin 1536) : KernelIdeal.Arrays.rowS' m c R < fieldVal 253 := by
  unfold KernelIdeal.Arrays.rowS'
  refine rowS_lt _ fun k => ?_
  rw [kX]
  exact hf _

/-- Both programs start from the same arguments. -/
structure Same : Prop where
  h0 : m' ((c.tc : Thread ReferenceIdeal.nD ReferenceIdeal.τ).loc ReferenceIdeal.main_arg0)
    = m ((c.tc : Thread KernelIdeal.nD KernelIdeal.τ).loc KernelIdeal.main_arg0)
  h1 : m' ((c.tc : Thread ReferenceIdeal.nD ReferenceIdeal.τ).loc ReferenceIdeal.main_arg1)
    = m ((c.tc : Thread KernelIdeal.nD KernelIdeal.τ).loc KernelIdeal.main_arg1)
  h2 : m' ((c.tc : Thread ReferenceIdeal.nD ReferenceIdeal.τ).loc ReferenceIdeal.main_arg2)
    = m ((c.tc : Thread KernelIdeal.nD KernelIdeal.τ).loc KernelIdeal.main_arg2)
  h3 : m' ((c.tc : Thread ReferenceIdeal.nD ReferenceIdeal.τ).loc ReferenceIdeal.main_arg3)
    = m ((c.tc : Thread KernelIdeal.nD KernelIdeal.τ).loc KernelIdeal.main_arg3)

variable {m m' c}

theorem X_eq (h : Same m m' c) : ReferenceIdeal.Arrays.X m' c = KernelIdeal.Arrays.X m c := by
  rw [kX, rX]
  exact congrArg (fun v : Vec Ideal KernelIdeal.S3x512x4096 .bf16 => shapeCast KernelIdeal.S1536x4096 v KernelIdeal.Gen.shapeCasts_S3x512x4096_S1536x4096) h.h0

theorem W_eq (h : Same m m' c) : ReferenceIdeal.Arrays.W m' c = KernelIdeal.Arrays.W m c :=
  (ReferenceIdeal.Gen.V_main_arg1 m' c).trans (h.h1.trans (KernelIdeal.Gen.V_main_arg1 m c).symm)

theorem WS_eq (h : Same m m' c) (n : Fin 3584) (i : Fin 28) (j : Fin 128) (hi : i.val = n.val / 128) (hj : j.val = n.val % 128) :
    ReferenceIdeal.Arrays.WS m' c (ix2 (0 : Fin 1) n) = KernelIdeal.Arrays.WS m c (ix2 i j) :=
  (rWS_apply m' c n).trans ((congrFun h.h2 _).trans (kWS_apply m c n i j hi hj).symm)

theorem Res_eq (h : Same m m' c) : ReferenceIdeal.Arrays.Res m' c = KernelIdeal.Arrays.Res m c := by
  rw [kRes, rRes]
  exact congrArg (fun v : Vec Ideal KernelIdeal.S3x512x3584 .bf16 => shapeCast KernelIdeal.S1536x3584 v KernelIdeal.Gen.shapeCasts_S3x512x3584_S1536x3584) h.h3

theorem row_eq (h : Same m m' c) (R : Fin 1536) : ReferenceIdeal.Values.rowOf (ReferenceIdeal.Arrays.X m' c) R = KernelIdeal.Arrays.rowS' m c R := by
  rw [X_eq h]; rfl

theorem scale_eq (h : Same m m' c) (hf : Finite m c) (R : Fin 1536) :
    Ideal.exp2 (refExp (ReferenceIdeal.Values.rowOf (ReferenceIdeal.Arrays.X m' c) R)) = kScale (KernelIdeal.Arrays.rowS' m c R) := by
  rw [row_eq h, kScale_eq (row_lt m c hf R)]

theorem code_eq (h : Same m m' c) (hf : Finite m c) (R : Fin 1536) (k : Fin 4096) :
    ReferenceIdeal.Values.codeOf (ReferenceIdeal.Arrays.X m' c) R k = KernelIdeal.Arrays.code m c R k := by
  unfold ReferenceIdeal.Values.codeOf KernelIdeal.Arrays.code
  rw [row_eq h, kInv_eq (row_lt m c hf R), X_eq h]

theorem xq_eq (h : Same m m' c) (hf : Finite m c) :
    (ReferenceIdeal.Gen.dats m' 0 c).arrAt 5 ReferenceIdeal.cfg0.N = (KernelIdeal.Gen.dats m 0 c).arrAt 7 KernelIdeal.cfg0.N := by
  funext y
  exact (ReferenceIdeal.Arrays.xq_apply m' c y).trans ((code_eq h hf _ _).trans (KernelIdeal.Arrays.xq_apply m c y).symm)

theorem xs_eq (h : Same m m' c) (hf : Finite m c) :
    (ReferenceIdeal.Gen.dats m' 0 c).arrAt 6 ReferenceIdeal.cfg0.N = (KernelIdeal.Gen.dats m 0 c).arrAt 8 KernelIdeal.cfg0.N := by
  funext (y : KernelIdeal.S6x1x256.Idx)
  have h0 : (y 0).val < 6 := (y 0).isLt
  have h2 : (y 2).val < 256 := (y 2).isLt
  refine (ReferenceIdeal.Arrays.xs_apply m' c y ⟨256 * (y 0).val + (y 2).val, by omega⟩ rfl).trans ?_
  refine Eq.trans ?_ (KernelIdeal.Arrays.xs_apply m c y ⟨256 * (y 0).val + (y 2).val, by omega⟩ rfl).symm
  exact scale_eq h hf _

theorem ro_eq (h : Same m m' c) (hf : Finite m c) :
    (ReferenceIdeal.Gen.dats m' 0 c).arrAt 4 ReferenceIdeal.cfg0.N = (KernelIdeal.Gen.dats m 0 c).arrAt 6 KernelIdeal.cfg0.N := by
  funext (y : KernelIdeal.S1536x3584.Idx)
  refine (ReferenceIdeal.Arrays.ro_apply m' c y).trans (Eq.trans ?_ (KernelIdeal.Arrays.ro_apply m c y).symm)
  unfold ReferenceIdeal.Values.sumOf
  refine congrArg₂ (· + ·) (congrArg₂ (· * ·) (congrArg₂ (· * ·) ?_ ?_) ?_) ?_
  · exact Finset.sum_congr rfl fun k _ => congrArg₂ (· * ·) (code_eq h hf _ k) (congrFun (W_eq h) _)
  · exact scale_eq h hf _
  · exact WS_eq h (y 1) _ _ rfl rfl
  · exact congrFun (Res_eq h) _

end

end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_x_finite
public import Idealize.ShloMosaic.Adequacy
public import Idealize.ShloMosaic.Init
public import proofs.«01_k».proof.Proof.Join

@[expose] public section

noncomputable section

namespace Cert.Proof

open Idealize.ShloMosaic Idealize.SL.Sem Cert.Kernel

/-- The precondition, element by element. -/
theorem finite_of_pre (m : (ℓ : Loc Cert.KernelIdeal.nD Cert.KernelIdeal.τ Cert.KernelIdeal.sig) → Buf (Elt Ideal) ℓ)
    (h : Cert.Pre_KernelIdeal_x_finite m) (c : Dev Cert.KernelIdeal.nD) : Cert.Join.Finite m c := by
  intro i
  exact Cert.Join.le_of_cmpf (congrFun (h c) i)

theorem algebraic : Cert.algebraic_KernelIdeal_ReferenceIdeal_pre_x_finite := by
  intro m g m' g' hp hs
  have hf := finite_of_pre m hp
  have hsame : ∀ c, Cert.Join.Same m m' c := fun c => ⟨(hs c).1, (hs c).2.1, (hs c).2.2.1, (hs c).2.2.2.1⟩
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · refine (θ_run Cert.KernelIdeal.defs _ _).mono (fun r h c => ?_) (Cert.KernelIdeal.Value.run_blocks m g)
    obtain ⟨h0, h1, h2, _, _, ha⟩ := h c
    exact ⟨h0, h1, h2, ha⟩
  · refine (θ_run Cert.ReferenceIdeal.defs _ _).mono (fun r h c => ?_) (Cert.ReferenceIdeal.Value.run_blocks m' g')
    obtain ⟨h0, h1, h2, ha⟩ := h c
    exact ⟨h0.trans (Cert.Join.ro_eq (hsame c) (hf c)), h1.trans (Cert.Join.xq_eq (hsame c) (hf c)),
      h2.trans (Cert.Join.xs_eq (hsame c) (hf c)), ha⟩

theorem claim : Cert.Claim :=
  ⟨Cert.Kernel.Gen.facts, Cert.KernelIdeal.Gen.facts, Cert.ReferenceIdeal.Gen.facts, Cert.Pre_x_finite.Gen.facts,
    fun m g _ => Cert.Kernel.Gen.frame m g, fun m g _ => Cert.KernelIdeal.Gen.frame m g,
    fun m g _ => Cert.KernelIdeal.Gen.frame m g, fun m g _ => Cert.ReferenceIdeal.Gen.frame m g,
    fun m g _ => Cert.ReferenceIdeal.Gen.frame m g, trivial, algebraic⟩

end Cert.Proof

end
